-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2048x1500 : Shape := ⟨2, ![2048, 1500]⟩
abbrev S10000 : Shape := ⟨1, ![10000]⟩
abbrev S4000 : Shape := ⟨1, ![4000]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel
  bcast_S_S4000 : S_.BroadcastsInDim S4000 (![] : Fin 0 → Fin S4000.rank)
  reducesTo_S4000_S_d0 : S4000.ReducesTo [0] S_

variable [Facts]

def fn_part1 {F : FTy → Type} [FloatOps F] (main_arg4 : IVec S4000 32) (main_arg5 : IVec S4000 32) (main_v12 : IVec S_ 1) (main_v14 : IVec S4000 1) (main_v15 : IVec S4000 32) : IVec S_ 1 :=
  let main_v16 : IVec S4000 1 := cmpi .slt main_arg4 main_v15
  let main_v17 : IVec S4000 1 := andi main_v14 main_v16
  let main_c_7 : IVec S_ 1 := constantI S_ 1 1#1
  let main_v18 : IVec S_ 1 := (fun x v => Host.reduce IntOp.andi x v reducesTo_S4000_S_d0 h_S_) main_v17 main_c_7
  let main_v19 : IVec S_ 1 := andi main_v12 main_v18
  let main_c_8 : IVec S_ 32 := constantI S_ 32 0#32
  let main_v20 : IVec S4000 32 := broadcastInDim S4000 ![] bcast_S_S4000 main_c_8
  let main_v21 : IVec S4000 1 := cmpi .sge main_arg5 main_v20
  let main_c_9 : IVec S_ 32 := constantI S_ 32 1500#32
  let main_v22 : IVec S4000 32 := broadcastInDim S4000 ![] bcast_S_S4000 main_c_9
  let main_v23 : IVec S4000 1 := cmpi .slt main_arg5 main_v22
  let main_v24 : IVec S4000 1 := andi main_v21 main_v23
  let main_c_10 : IVec S_ 1 := constantI S_ 1 1#1
  let main_v25 : IVec S_ 1 := (fun x v => Host.reduce IntOp.andi x v reducesTo_S4000_S_d0 h_S_) main_v24 main_c_10
  let main_v26 : IVec S_ 1 := andi main_v19 main_v25
  main_v26

def fn {F : FTy → Type} [FloatOps F] (main_arg0 : FVec F S2048x1500 .f32) (main_arg1 : FVec F S2048x1500 .f32) (main_arg2 : IVec S10000 32) (main_arg3 : IVec S10000 32) (main_arg4 : IVec S4000 32) (main_arg5 : IVec S4000 32) : IVec S_ 1 :=
  let main_c : IVec S_ 32 := constantI S_ 32 0#32
  let main_v0 : IVec S10000 32 := broadcastInDim S10000 ![] bcast_S_S10000 main_c
  let main_v1 : IVec S10000 1 := cmpi .sge main_arg2 main_v0
  let main_c_0 : IVec S_ 32 := constantI S_ 32 1500#32
  let main_v2 : IVec S10000 32 := broadcastInDim S10000 ![] bcast_S_S10000 main_c_0
  let main_v3 : IVec S10000 1 := cmpi .slt main_arg2 main_v2
  let main_v4 : IVec S10000 1 := andi main_v1 main_v3
  let main_c_1 : IVec S_ 1 := constantI S_ 1 1#1
  let main_v5 : IVec S_ 1 := (fun x v => Host.reduce IntOp.andi x v reducesTo_S10000_S_d0 h_S_) main_v4 main_c_1
  let main_c_2 : IVec S_ 32 := constantI S_ 32 0#32
  let main_v6 : IVec S10000 32 := broadcastInDim S10000 ![] bcast_S_S10000 main_c_2
  let main_v7 : IVec S10000 1 := cmpi .sge main_arg3 main_v6
  let main_c_3 : IVec S_ 32 := constantI S_ 32 1500#32
  let main_v8 : IVec S10000 32 := broadcastInDim S10000 ![] bcast_S_S10000 main_c_3
  let main_v9 : IVec S10000 1 := cmpi .slt main_arg3 main_v8
  let main_v10 : IVec S10000 1 := andi main_v7 main_v9
  let main_c_4 : IVec S_ 1 := constantI S_ 1 1#1
  let main_v11 : IVec S_ 1 := (fun x v => Host.reduce IntOp.andi x v reducesTo_S10000_S_d0 h_S_) main_v10 main_c_4
  let main_v12 : IVec S_ 1 := andi main_v5 main_v11
  let main_c_5 : IVec S_ 32 := constantI S_ 32 0#32
  let main_v13 : IVec S4000 32 := broadcastInDim S4000 ![] bcast_S_S4000 main_c_5
  let main_v14 : IVec S4000 1 := cmpi .sge main_arg4 main_v13
  let main_c_6 : IVec S_ 32 := constantI S_ 32 1500#32
  let main_v15 : IVec S4000 32 := broadcastInDim S4000 ![] bcast_S_S4000 main_c_6
  fn_part1 (F := F) main_arg4 main_arg5 main_v12 main_v14 main_v15
-- ==== Kernel.lean ====
abbrev S2048x1500 : Shape := ⟨2, ![2048, 1500]⟩
abbrev S10000 : Shape := ⟨1, ![10000]⟩
abbrev S4000 : Shape := ⟨1, ![4000]⟩
abbrev S1x1 : Shape := ⟨2, ![1, 1]⟩
abbrev S1x1500 : Shape := ⟨2, ![1, 1500]⟩
abbrev S1500x1500 : Shape := ⟨2, ![1500, 1500]⟩
abbrev S256x1500 : Shape := ⟨2, ![256, 1500]⟩
abbrev S1x256x1500 : Shape := ⟨3, ![1, 256, 1500]⟩
abbrev S1 : Shape := ⟨1, ![1]⟩
abbrev S1x1x1 : Shape := ⟨3, ![1, 1, 1]⟩
abbrev S1500 : Shape := ⟨1, ![1500]⟩
abbrev S2250000 : Shape := ⟨1, ![2250000]⟩
abbrev S_ : Shape := ⟨0, ![]⟩
abbrev S12288 : Shape := ⟨1, ![12288]⟩
abbrev S4096 : Shape := ⟨1, ![4096]⟩
abbrev S32x3x16 : Shape := ⟨3, ![32, 3, 16]⟩
abbrev S384 : Shape := ⟨1, ![384]⟩
abbrev S128 : Shape := ⟨1, ![128]⟩
abbrev S3x128 : Shape := ⟨2, ![3, 128]⟩
abbrev S3x16 : Shape := ⟨2, ![3, 16]⟩
abbrev S16 : Shape := ⟨1, ![16]⟩
abbrev S1x16 : Shape := ⟨2, ![1, 16]⟩
abbrev S1x128 : Shape := ⟨2, ![1, 128]⟩
abbrev S1x3x16 : Shape := ⟨3, ![1, 3, 16]⟩
abbrev S3 : Shape := ⟨1, ![3]⟩

abbrev nBuf : Table → Nat
  | .hbm => 54
  | .local .tc .vmem => 6
  | .local .tc .smem => 1
  | .local .scVector .vmem => 11
  | _ => 0

abbrev bufTy : (tb : Table) → Fin (nBuf tb) → BufTy
  | .hbm, ⟨0, _⟩ => ⟨S2048x1500, .f32⟩
  | .hbm, ⟨1, _⟩ => ⟨S2048x1500, .f32⟩
  | .hbm, ⟨2, _⟩ => ⟨S10000, .i32⟩
  | .hbm, ⟨3, _⟩ => ⟨S10000, .i32⟩
  | .hbm, ⟨4, _⟩ => ⟨S4000, .i32⟩
  | .hbm, ⟨5, _⟩ => ⟨S4000, .i32⟩
  | .hbm, ⟨6, _⟩ => ⟨S1x1, .f32⟩
  | .hbm, ⟨7, _⟩ => ⟨S1x1500, .f32⟩
  | .hbm, ⟨8, _⟩ => ⟨S1500x1500, .f32⟩
  | .hbm, ⟨9, _⟩ => ⟨S2250000, .f32⟩
  | .hbm, ⟨10, _⟩ => ⟨S1500, .f32⟩
  | .hbm, ⟨11, _⟩ => ⟨S_, .i32⟩
  | .hbm, ⟨12, _⟩ => ⟨S12288, .i32⟩
  | .hbm, ⟨13, _⟩ => ⟨S_, .i32⟩
  | .hbm, ⟨14, _⟩ => ⟨S1, .i32⟩
  | .hbm, ⟨15, _⟩ => ⟨S12288, .i32⟩
  | .hbm, ⟨16, _⟩ => ⟨S_, .i32⟩
  | .hbm, ⟨17, _⟩ => ⟨S12288, .i32⟩
  | .hbm, ⟨18, _⟩ => ⟨S_, .i32⟩
  | .hbm, ⟨19, _⟩ => ⟨S1, .i32⟩
  | .hbm, ⟨20, _⟩ => ⟨S12288, .i32⟩
  | .hbm, ⟨21, _⟩ => ⟨S_, .i32⟩
  | .hbm, ⟨22, _⟩ => ⟨S4096, .i32⟩
  | .hbm, ⟨23, _⟩ => ⟨S_, .i32⟩
  | .hbm, ⟨24, _⟩ => ⟨S1, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S_, .i32⟩
  | .hbm, ⟨29, _⟩ => ⟨S1, .i32⟩
  | .hbm, ⟨30, _⟩ => ⟨S4096, .i32⟩
  | .hbm, ⟨31, _⟩ => ⟨S32x3x16, .f32⟩
  | .hbm, ⟨32, _⟩ => ⟨S_, .f32⟩
  | .hbm, ⟨33, _⟩ => ⟨S3, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local .tc .vmem, ⟨0, _⟩ => ⟨S256x1500, .f32⟩
  | .local .tc .vmem, ⟨1, _⟩ => ⟨S256x1500, .f32⟩
  | .local .tc .vmem, ⟨2, _⟩ => ⟨S256x1500, .f32⟩
  | .local .tc .vmem, ⟨3, _⟩ => ⟨S256x1500, .f32⟩
  | .local .tc .vmem, ⟨4, _⟩ => ⟨S1x1500, .f32⟩
  | .local .tc .vmem, ⟨5, _⟩ => ⟨S1500x1500, .f32⟩
  | .local .tc .smem, ⟨0, _⟩ => ⟨S1x1, .f32⟩
  | .local .scVector .vmem, ⟨0, _⟩ => ⟨S384, .i32⟩
  | .local .scVector .vmem, ⟨1, _⟩ => ⟨S384, .i32⟩
  | .local .scVector .vmem, ⟨2, _⟩ => ⟨S128, .i32⟩
  | .local .scVector .vmem, ⟨3, _⟩ => ⟨S128, .i32⟩
  | .local .scVector .vmem, ⟨4, _⟩ => ⟨S3x128, .i32⟩
  | .local .scVector .vmem, ⟨5, _⟩ => ⟨S3x128, .i32⟩
  | .local .scVector .vmem, ⟨6, _⟩ => ⟨S128, .i32⟩
  | .local .scVector .vmem, ⟨7, _⟩ => ⟨S384, .f32⟩
  | .local .scVector .vmem, ⟨8, _⟩ => ⟨S384, .f32⟩
  | .local .scVector .vmem, ⟨9, _⟩ => ⟨S128, .f32⟩
  | .local .scVector .vmem, ⟨10, _⟩ => ⟨S3x16, .f32⟩
  | _, _ => ⟨S2048x1500, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_c_5 : Ref sig .tc := ⟨.hbm, 26, rfl⟩
abbrev main_v12 : Ref sig .tc := ⟨.hbm, 27, rfl⟩
abbrev main_c_6 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_v31 : Ref sig .tc := ⟨.hbm, 53, rfl⟩
abbrev main_v1_scv : Ref sig .scVector := ⟨.hbm, 9, rfl⟩
abbrev main_v2_scv : Ref sig .scVector := ⟨.hbm, 10, rfl⟩
abbrev main_v5_scv : Ref sig .scVector := ⟨.hbm, 15, rfl⟩
abbrev main_v8_scv : Ref sig .scVector := ⟨.hbm, 20, rfl⟩
abbrev main_v11_scv : Ref sig .scVector := ⟨.hbm, 25, rfl⟩
abbrev main_v14_scv : Ref sig .scVector := ⟨.hbm, 30, rfl⟩
abbrev main_v15_scv : Ref sig .scVector := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1500x1500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v2 : BitVec 32 := Scalar.muli v1 c384_i32
  ![v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  ![v3.toNat]
def k1_off3 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_383_r4 : BitVec 32 := 0#32
  let c0_i32_384_r4 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x1500 : Shape := ⟨2, ![2048, 1500]⟩
abbrev S10000 : Shape := ⟨1, ![10000]⟩
abbrev S4000 : Shape := ⟨1, ![4000]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S2048x10000 : Shape := ⟨2, ![2048, 10000]⟩
abbrev S2048 : Shape := ⟨1, ![2048]⟩
abbrev S4000x1 : Shape := ⟨2, ![4000, 1]⟩
abbrev S2048x4000 : Shape := ⟨2, ![2048, 4000]⟩

abbrev nBuf : Space → Nat
  | .hbm => 149
  | .vmem => 0
  | .smem => 0
  | _ => 0

abbrev hbmTy0_0 (i : Nat) : BufTy := match i % 128 with
  | 0 => ⟨S2048x1500, .f32⟩
  | 1 => ⟨S2048x1500, .f32⟩
  | 2 => ⟨S10000, .i32⟩
  | 3 => ⟨S10000, .i32⟩
  | 4 => ⟨S4000, .i32⟩
  | 5 => ⟨S4000, .i32⟩
  | 6 => ⟨S_, .f32⟩
  | 7 => ⟨S2048x1500, .f32⟩
  | 8 => ⟨S2048x1500, .f32⟩
  | 9 => ⟨S2048x1500, .f32⟩
  | 10 => ⟨S2048x1500, .f32⟩
  | 11 => ⟨S2048x1500, .f32⟩
  | 12 => ⟨S2048x1500, .f32⟩
  | 13 => ⟨S2048x1500, .f32⟩
  | 14 => ⟨S2048x1500, .f32⟩
  | 15 => ⟨S2048x1500, .f32⟩
  | 16 => ⟨S_, .f32⟩
  | 17 => ⟨S_, .f32⟩
  | 18 => ⟨S_, .f32⟩
  | 19 => ⟨S_, .f32⟩
  | 20 => ⟨S2048x1500, .f32⟩
  | 21 => ⟨S2048x1500, .f32⟩
  | 22 => ⟨S_, .f32⟩
  | 23 => ⟨S2048x1500, .f32⟩
  | 24 => ⟨S2048x1500, .f32⟩
  | 25 => ⟨S_, .f32⟩
  | 26 => ⟨S2048x1500, .f32⟩
  | 27 => ⟨S2048x1500, .f32⟩
  | 28 => ⟨S_, .i32⟩
  | 29 => ⟨S10000, .i32⟩
  | 30 => ⟨S10000, .i1⟩
  | 31 => ⟨S_, .i32⟩
  | 32 => ⟨S10000, .i32⟩
  | 33 => ⟨S10000, .i32⟩
  | 34 => ⟨S10000, .i32⟩
  | 35 => ⟨S10000x1, .i32⟩
  | 36 => ⟨S1, .i32⟩
  | 37 => ⟨S_, .i32⟩
  | 38 => ⟨S10000x1, .i32⟩
  | 39 => ⟨S10000x1, .i1⟩
  | 40 => ⟨S1x1, .i32⟩
  | 41 => ⟨S10000x1, .i32⟩
  | 42 => ⟨S10000x1, .i1⟩
  | 43 => ⟨S10000x1, .i1⟩
  | 44 => ⟨S_, .i1⟩
  | 45 => ⟨S10000, .i1⟩
  | 46 => ⟨S2048x10000, .f32⟩
  | 47 => ⟨S2048x10000, .i1⟩
  | 48 => ⟨S_, .f32⟩
  | 49 => ⟨S2048x10000, .f32⟩
  | 50 => ⟨S2048x10000, .f32⟩
  | 51 => ⟨S_, .i32⟩
  | 52 => ⟨S10000, .i32⟩
  | 53 => ⟨S10000, .i1⟩
  | 54 => ⟨S_, .i32⟩
  | 55 => ⟨S10000, .i32⟩
  | 56 => ⟨S10000, .i32⟩
  | 57 => ⟨S10000, .i32⟩
  | 58 => ⟨S10000x1, .i32⟩
  | 59 => ⟨S1, .i32⟩
  | 60 => ⟨S_, .i32⟩
  | 61 => ⟨S10000x1, .i32⟩
  | 62 => ⟨S10000x1, .i1⟩
  | 63 => ⟨S1x1, .i32⟩
  | 64 => ⟨S10000x1, .i32⟩
  | 65 => ⟨S10000x1, .i1⟩
  | 66 => ⟨S10000x1, .i1⟩
  | 67 => ⟨S_, .i1⟩
  | 68 => ⟨S10000, .i1⟩
  | 69 => ⟨S2048x10000, .f32⟩
  | 70 => ⟨S2048x10000, .i1⟩
  | 71 => ⟨S_, .f32⟩
  | 72 => ⟨S2048x10000, .f32⟩
  | 73 => ⟨S2048x10000, .f32⟩
  | 74 => ⟨S_, .f32⟩
  | 75 => ⟨S2048x10000, .f32⟩
  | 76 => ⟨S2048x10000, .f32⟩
  | 77 => ⟨S2048x10000, .f32⟩
  | 78 => ⟨S_, .f32⟩
  | 79 => ⟨S2048, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .i32⟩
  | 88 => ⟨S4000, .i32⟩
  | 89 => ⟨S4000, .i1⟩
  | 90 => ⟨S_, .i32⟩
  | 91 => ⟨S4000, .i32⟩
  | 92 => ⟨S4000, .i32⟩
  | 93 => ⟨S4000, .i32⟩
  | 94 => ⟨S4000x1, .i32⟩
  | 95 => ⟨S1, .i32⟩
  | 96 => ⟨S_, .i32⟩
  | 97 => ⟨S4000x1, .i32⟩
  | 98 => ⟨S4000x1, .i1⟩
  | 99 => ⟨S1x1, .i32⟩
  | 100 => ⟨S4000x1, .i32⟩
  | 101 => ⟨S4000x1, .i1⟩
  | 102 => ⟨S4000x1, .i1⟩
  | 103 => ⟨S_, .i1⟩
  | 104 => ⟨S4000, .i1⟩
  | 105 => ⟨S2048x4000, .f32⟩
  | 106 => ⟨S2048x4000, .i1⟩
  | 107 => ⟨S_, .f32⟩
  | 108 => ⟨S2048x4000, .f32⟩
  | 109 => ⟨S2048x4000, .f32⟩
  | 110 => ⟨S_, .i32⟩
  | 111 => ⟨S4000, .i32⟩
  | 112 => ⟨S4000, .i1⟩
  | 113 => ⟨S_, .i32⟩
  | 114 => ⟨S4000, .i32⟩
  | 115 => ⟨S4000, .i32⟩
  | 116 => ⟨S4000, .i32⟩
  | 117 => ⟨S4000x1, .i32⟩
  | 118 => ⟨S1, .i32⟩
  | 119 => ⟨S_, .i32⟩
  | 120 => ⟨S4000x1, .i32⟩
  | 121 => ⟨S4000x1, .i1⟩
  | 122 => ⟨S1x1, .i32⟩
  | 123 => ⟨S4000x1, .i32⟩
  | 124 => ⟨S4000x1, .i1⟩
  | 125 => ⟨S4000x1, .i1⟩
  | 126 => ⟨S_, .i1⟩
  | 127 => ⟨S4000, .i1⟩
  | _ => ⟨S2048x1500, .f32⟩

abbrev hbmTy0_1 (i : Nat) : BufTy := match i % 128 with
  | 0 => ⟨S2048x4000, .f32⟩
  | 1 => ⟨S2048x4000, .i1⟩
  | 2 => ⟨S_, .f32⟩
  | 3 => ⟨S2048x4000, .f32⟩
  | 4 => ⟨S2048x4000, .f32⟩
  | 5 => ⟨S_, .f32⟩
  | 6 => ⟨S2048x4000, .f32⟩
  | 7 => ⟨S2048x4000, .f32⟩
  | 8 => ⟨S_, .f32⟩
  | 9 => ⟨S2048x4000, .f32⟩
  | 10 => ⟨S2048x4000, .f32⟩
  | 11 => ⟨S2048x4000, .f32⟩
  | 12 => ⟨S_, .f32⟩
  | 13 => ⟨S2048, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | _ => ⟨S2048x1500, .f32⟩

abbrev hbmTy (i : Nat) : BufTy := match i / 128 with
  | 0 => hbmTy0_0 i
  | 1 => hbmTy0_1 i
  | _ => ⟨S2048x1500, .f32⟩

abbrev bufTy : (tb : Table) → Fin (tcTables nBuf tb) → BufTy
  | .hbm, ⟨i, _⟩ => hbmTy i
  | _, _ => ⟨S2048x1500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v17 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v18 : Ref sig .tc := ⟨.hbm, 73, rfl⟩
abbrev main_cst_4 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_5 : Ref sig .tc := ⟨.hbm, 78, rfl⟩
abbrev main_v22 : Ref sig .tc := ⟨.hbm, 79, rfl⟩
abbrev main_cst_6 : Ref sig .tc := ⟨.hbm, 80, rfl⟩
abbrev main_v23 : Ref sig .tc := ⟨.hbm, 81, rfl⟩
abbrev main_cst_7 : Ref sig .tc := ⟨.hbm, 82, rfl⟩
abbrev main_v24 : Ref sig .tc := ⟨.hbm, 83, rfl⟩
abbrev main_cst_8 : Ref sig .tc := ⟨.hbm, 84, rfl⟩
abbrev main_v25 : Ref sig .tc := ⟨.hbm, 85, rfl⟩
abbrev main_v26 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v27 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v28 : Ref sig .tc := ⟨.hbm, 132, rfl⟩
abbrev main_cst_9 : Ref sig .tc := ⟨.hbm, 133, rfl⟩
abbrev main_v29 : Ref sig .tc := ⟨.hbm, 134, rfl⟩
abbrev main_v30 : Ref sig .tc := ⟨.hbm, 135, rfl⟩
abbrev main_cst_10 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_cst_11 : Ref sig .tc := ⟨.hbm, 140, rfl⟩
abbrev main_v34 : Ref sig .tc := ⟨.hbm, 141, rfl⟩
abbrev main_cst_12 : Ref sig .tc := ⟨.hbm, 142, rfl⟩
abbrev main_v35 : Ref sig .tc := ⟨.hbm, 143, rfl⟩
abbrev main_cst_13 : Ref sig .tc := ⟨.hbm, 144, rfl⟩
abbrev main_v36 : Ref sig .tc := ⟨.hbm, 145, rfl⟩
abbrev main_cst_14 : Ref sig .tc := ⟨.hbm, 146, rfl⟩
abbrev main_v37 : Ref sig .tc := ⟨.hbm, 147, rfl⟩
abbrev main_v38 : Ref sig .tc := ⟨.hbm, 148, rfl⟩

abbrev nD : Nat := 1
abbrev τ : Topo := Topo.v7x

variable {F : FTy → Type} [FloatOps F]
-- ==== Proof.GatherBatch.lean ====
/-
  Several indirect gathers in flight on ONE semaphore.

  A tile issues a number of indirect gathers on a shared DMA semaphore and only then waits, once per gather. Every row
  of every gather is one transfer of a `Transfers.Batch` on the semaphore's cell: this module gives what one row
  delivers, how the rows of a gather join into the written destination, and the rule for issuing one gather against
  the batch's issue rights of its rows.
-/
module

public import Idealize.ShloMosaic.Lib.SparseCore.Stream
public import Idealize.ShloMosaic.Lib.SparseCore.Ops
public import Idealize.ShloMosaic.Lib.Batch
public import Idealize.ShloMosaic.Lib.Tactic

@[expose] public section

noncomputable section

namespace Cert.Proof.GatherBatch

open Idealize.ShloMosaic
open Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The place of entry `k` of an offset list of `o` words. -/
def entryOf {o : ℕ} (hn : si.numel = o) (k : Fin o) : si.Idx := si.rowMajor.symm (k.cast hn.symm)

/-- Every place of an offset list is that of exactly one entry. -/
theorem entryOf_bijective {o : ℕ} (hn : si.numel = o) : Function.Bijective (entryOf (si := si) hn) :=
  si.rowMajor.symm.bijective.comp (finCongr hn.symm).bijective

/-- What row `j` of a gather delivers: the destination's row `j` written with the source's row the list names, the
    list's entry `j`, and the piece of the source's share row `j` read under. -/
def rowDone (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd
            (fun i : (s.rowShape hg.axis').Idx => src.view.read (Elt F) fs (hg.rowIdx (rows (offs.view.read (Elt F) fo) hn hin j) i)) Finset.univ))
      ∗ (offs.view.loc c ↦[{offs.view.emb (entryOf hn j)}]{qo} fo))
    ∗ (src.view.loc c ↦[src.view.set]{pieceOf q _ ho j} fs))

/-- What a row delivers may be kept by a batch. -/
instance rowDone_storable (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowDone (Ix := Ix) (Name := Name) (U := U) (Lvl := Lvl) c src dst hg offs hn ho q qo fs fd fo hin j) := by
  unfold rowDone; infer_instance

/-- A gather's delivered rows together: the destination written with the gather's payload, the source's share and the
    list's share back. -/
theorem rowDone_join (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) :
    (bigSep Finset.univ (rowDone c src dst hg offs hn ho q qo fs fd fo hin) : sProp 𝕄)
      ⊢ iprop((dst.view.loc c ↦[dst.view.set]{fullShare}
              (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold rowDone
  iintro H
  ihave H := Transfers.bigSep_sep_out _ _ _ $$ H
  icases H with ⟨H, Hsrc⟩
  ihave H := Transfers.bigSep_sep_out _ _ _ $$ H
  icases H with ⟨Hdst, Hlist⟩
  isplitl [Hdst]
  · iapply (pointsTo_rows_write (Ix := Ix) (Name := Name) (U := U) (Lvl := Lvl) c dst.view hg.axis' fd
      (fun j (i : (s.rowShape hg.axis').Idx) => src.view.read (Elt F) fs (hg.rowIdx (rows (offs.view.read (Elt F) fo) hn hin j) i))
      (gatherPayload hg (src.view.read (Elt F) fs) (rows (offs.view.read (Elt F) fo) hn hin)) fun j i => by
      unfold gatherPayload; rw [Shape.Gathers.idx_rowRect_emb]) $$ Hdst
  isplitl [Hsrc]
  · iapply (Entails.of_eq (pointsTo_piecesOf src.view.set fs ho q).symm) $$ Hsrc
  · iapply (Entails.of_eq (pointsTo_entries c offs.view _ (entryOf_bijective hn) qo fo).symm) $$ Hlist

/-- ISSUE of one gather into a batch: row `j` of the gather is the batch's transfer `t j`, each of `N` units. Holding
    the batch's invariant, the issue rights of those transfers, a share of the source, the destination outright and a
    share of the offset list whose words are in range, the tile issues the gather and continues with the credit of all
    its rows. -/
theorem wp_gatherInto [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N M : ℕ) (hN : ∀ j, (dst.slice (s.rowRect hg.axis' j) (s.stride_rowRect hg.axis' j)).view.dmaCredit = N)
    (hM : s.size hg.axis' * N = M)
    (ho : 0 < s.size hg.axis') (hin : ∀ x, (offs.view.read (Elt F) fo x).toNat < s₀.size hg.axis)
    {n : ℕ} {D : Fin n → sProp 𝕄} {γ : Fin n → ℕ} {γ₀ : ℕ} {κ : Name} (t : Fin (s.size hg.axis') → Fin n)
    (hD : ∀ j, rowDone c src dst hg offs hn ho q qo fs fd fo hin j ⊢ D (t j)) :
    iprop(inv κ (Transfers.batchBody EC (c, SemLoc.dma sem) N D γ γ₀) ∗ (bigSep Finset.univ fun j => count EC (γ (t j)) 0)
        ∗ (src.view.loc c ↦[src.view.set]{q} fs) ∗ (dst.view.loc c ↦[dst.view.set]{fullShare} fd)
        ∗ (offs.view.loc c ↦[offs.view.set]{qo} fo))
      ⊢ iprop((cred (tallyAt (c, SemLoc.dma sem) ι M) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem :=
    fun j => gatherRow c src dst hg sem hsrc he hsp hr j (rows (offs.view.read (Elt F) fo) hn hin j)
  have agree : S.RowsAgree := by
    intro j x x' ρ ρ' h h'
    obtain ⟨_, _, rfl⟩ := Option.map_eq_some_iff.mp h
    obtain ⟨_, _, rfl⟩ := Option.map_eq_some_iff.mp h'
    rfl
  have served : ∀ j, S.row j (S.word fo j) = some (rd j) := fun j => by
    change (rowOf (s₀.size hg.axis) (offs.view.read (Elt F) fo (S.entry j))).map _ = _
    rw [rowOf_of_lt (hin _)]; rfl
  have total : ∑ j, (dst.slice (s.rowRect hg.axis' j) (s.stride_rowRect hg.axis' j)).view.dmaCredit = M := by
    rw [Finset.sum_congr rfl fun j _ => hN j, Finset.sum_const, Finset.card_univ, Fintype.card_fin, smul_eq_mul, hM]
  have one : ∀ j, iprop(inv κ (Transfers.batchBody EC (c, SemLoc.dma sem) N D γ γ₀)
        ∗ ((((dst.view.loc c ↦[(dst.view.slice (s.rowRect hg.axis' j)).set]{fullShare} fd) ∗ S.heldEntry qo fo j)
        ∗ (src.view.loc c ↦[src.view.set]{pieceOf q _ ho j} fs)) ∗ count EC (γ (t j)) 0))
      ⊢ iprop(S.heldEntry qo fo j ∗ (S.heldEntry qo fo j -∗ rowRes c (rd j))) := fun j => by
    iintro ⟨#Hinv, ⟨⟨Hd, Hl⟩, Hs⟩, Hc⟩
    isplitl [Hl]; · iexact Hl
    iintro Hl
    unfold rowRes
    iexists pieceOf q _ ho j, fs, iprop((dst.view.loc c ↦[(dst.view.slice (s.rowRect hg.axis' j)).set]{fullShare}
        ((dst.view.slice (s.rowRect hg.axis' j)).write (Elt F) fd
          (fun i : (s.rowShape hg.axis').Idx => src.view.read (Elt F) fs (hg.rowIdx (rows (offs.view.read (Elt F) fo) hn hin j) i)) Finset.univ)) ∗ S.heldEntry qo fo j)
    isplitl [Hs]; · iexact Hs
    isplitl [Hd Hl]
    · iapply writeUpdate_frame
      isplitl [Hd]
      · iapply (pointsTo_writeUpdate c (v := dst.view.slice (s.rowRect hg.axis' j)) subset_rfl) $$ Hd
      · iexact Hl
    · have hcr : (rd j).dst.view.amount (SemLoc.dma sem) = N := hN j
      rw [hcr]
      iapply (Transfers.batch_creditUpdate EC (γ := γ) (γ₀ := γ₀) (ι := κ) (t j) (hD j))
      isplitr; · iexact Hinv
      iexact Hc
  iintro ⟨#Hinv, Hc, Hs, Hd, Hl⟩ Hk
  ihave Hd := (Entails.of_eq (pointsTo_rows c dst.view hg.axis' fullShare fd)) $$ Hd
  ihave Hl := (Entails.of_eq (pointsTo_entries c offs.view S.entry (entryOf_bijective hn) qo fo)) $$ Hl
  ihave Hs := (Entails.of_eq (pointsTo_piecesOf (src.view.set) fs ho q)) $$ Hs
  iapply (wp_enqueueIndirectDma 𝒱 c bd Set.univ (qo := qo) (fo := fo) (rd := rd) ι M agree served total) $$ [Hd Hl Hs Hc]
  · unfold Stream.res
    ihave H := Transfers.bigSep_sep_in _ _ _ $$ [Hd Hl]; · isplitl [Hd] <;> iassumption
    ihave H := Transfers.bigSep_sep_in _ _ _ $$ [H Hs]; · isplitl [H] <;> iassumption
    ihave H := Transfers.bigSep_sep_in _ _ _ $$ [H Hc]; · isplitl [H] <;> iassumption
    iapply (Transfers.bigSep_mono_pers Finset.univ _ _ _ fun j _ => one j)
    isplitr; · iexact Hinv
    iexact H
  · iexact Hk

/-! ## Seven gathers of 128 rows on one semaphore -/

/-- A product over seven is the seven factors. -/
theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  rw [BI.bigSep_insert (by decide), BI.bigSep_insert (by decide), BI.bigSep_insert (by decide), BI.bigSep_insert (by decide),
    BI.bigSep_insert (by decide), BI.bigSep_insert (by decide), BI.bigSep_singleton]
  rfl

/-- Transfer `j` of gather `g`, among the batch's 896. -/
abbrev slot (g : Fin 7) (j : Fin 128) : Fin (7 * 128) := finProdFinEquiv (g, j)

/-- What the batch's transfers deliver, from what each gather's rows do. -/
abbrev slots (D : Fin 7 → Fin 128 → sProp 𝕄) : Fin (7 * 128) → sProp 𝕄 := fun t => D (finProdFinEquiv.symm t).1 (finProdFinEquiv.symm t).2

/-- Slot `j` of gather `g` holds that gather's delivery of row `j`. -/
theorem slots_slot (D : Fin 7 → Fin 128 → sProp 𝕄) (g : Fin 7) (j : Fin 128) : slots D (slot g j) = D g j := by
  unfold slots slot; rw [Equiv.symm_apply_apply]

/-- A product over all slots is the product over the gathers of the products over their rows. -/
theorem bigSep_slots (Φ : Fin (7 * 128) → sProp 𝕄) :
    bigSep Finset.univ Φ = bigSep Finset.univ fun g : Fin 7 => bigSep Finset.univ fun j : Fin 128 => Φ (slot g j) := by
  rw [BI.bigSep_univ_equiv finProdFinEquiv, BI.bigSep_univ_prod]

/-- The batch of the seven gathers, nothing issued: each gather's issue rights apart. -/
theorem alloc_seven [Infinite Name] [EC.LandsIn (upEmb : UEmb _ 𝕄)] {g : GSem nD τ sig} (N : ℕ) (D : Fin 7 → Fin 128 → sProp 𝕄)
    [∀ g j, Storable (upEmb : UEmb _ 𝕄) (D g j)] :
    (semVal g 0 : sProp 𝕄)
      ⊢ |={Set.univ}=> iprop(∃ (γ : Fin (7 * 128) → ℕ) (γ₀ : ℕ) (κ : Name),
          inv κ (Transfers.batchBody EC g N (slots D) γ γ₀) ∗ count EC γ₀ 0
            ∗ (bigSep Finset.univ fun j => count EC (γ (slot 0 j)) 0) ∗ (bigSep Finset.univ fun j => count EC (γ (slot 1 j)) 0)
            ∗ (bigSep Finset.univ fun j => count EC (γ (slot 2 j)) 0) ∗ (bigSep Finset.univ fun j => count EC (γ (slot 3 j)) 0)
            ∗ (bigSep Finset.univ fun j => count EC (γ (slot 4 j)) 0) ∗ (bigSep Finset.univ fun j => count EC (γ (slot 5 j)) 0)
            ∗ (bigSep Finset.univ fun j => count EC (γ (slot 6 j)) 0)) := by
  iintro Hv
  imod (Transfers.batch_alloc EC N (slots D) (g := g) (E := Set.univ)) $$ Hv with ⟨%γ, %γ₀, %κ, Hinv, H0, Hc⟩
  imodintro
  iexists γ, γ₀, κ
  isplitl [Hinv]; · iexact Hinv
  isplitl [H0]; · iexact H0
  iapply (Entails.of_eq ((bigSep_slots fun t => (count EC (γ t) 0 : sProp 𝕄)).trans (bigSep_seven _))) $$ Hc

/-- The seven gathers issued: the batch with all its transfers out, from the seven credits. -/
theorem issued_seven {sm : SemLoc sig} {ι : Ix} {N M : ℕ} (hM : 128 * N = M) (D : Fin 7 → Fin 128 → sProp 𝕄) {γ : Fin (7 * 128) → ℕ} {γ₀ : ℕ} {κ : Name} :
    iprop(inv κ (Transfers.batchBody EC (c, sm) N (slots D) γ γ₀) ∗ count EC γ₀ 0
        ∗ cred (tallyAt (c, sm) ι M) ∗ cred (tallyAt (c, sm) ι M) ∗ cred (tallyAt (c, sm) ι M) ∗ cred (tallyAt (c, sm) ι M)
        ∗ cred (tallyAt (c, sm) ι M) ∗ cred (tallyAt (c, sm) ι M) ∗ cred (tallyAt (c, sm) ι M))
      ⊢ Transfers.Batch EC c sm ι N (slots D) (7 * 128) 0 := by
  have hp : Transfers.pending (n := 7 * 128) (7 * 128) = ∅ :=
    Finset.filter_false_of_mem fun t _ => by have := t.isLt; omega
  have e : 7 * 128 * N - 0 = M + (M + (M + (M + (M + (M + M))))) := by omega
  iintro ⟨Hinv, H0, C0, C1, C2, C3, C4, C5, C6⟩
  unfold Transfers.Batch
  iexists γ, γ₀, κ
  rw [hp, BI.bigSep_empty, e, ← tallyAt_add, ← tallyAt_add, ← tallyAt_add, ← tallyAt_add, ← tallyAt_add, ← tallyAt_add]
  isplitl [Hinv]; · iexact Hinv
  isplitr; · iempintro
  isplitl [H0]; · iexact H0
  iapply (cred_add _ _).2
  isplitl [C0]; · iexact C0
  iapply (cred_add _ _).2
  isplitl [C1]; · iexact C1
  iapply (cred_add _ _).2
  isplitl [C2]; · iexact C2
  iapply (cred_add _ _).2
  isplitl [C3]; · iexact C3
  iapply (cred_add _ _).2
  isplitl [C4]; · iexact C4
  iapply (cred_add _ _).2
  isplitl [C5]; · iexact C5
  iexact C6

/-- A resource put aside under a name of its own. -/
def Held (P : sProp 𝕄) : sProp 𝕄 := P

/-- A resource put aside is the resource. -/
theorem held_eq (P : sProp 𝕄) : Held P = P := rfl

/-- One of a batch's waits, not the last: it takes `q` transfers' units and tells nothing. -/
theorem wp_waitSome [Infinite Name] [EC.LandsIn (upEmb : UEmb _ 𝕄)] {e' : EltTy} {sem : DmaSem sig}
    {src : Memref sig c.2.kind sp s₀ e'} {dst : Memref sig c.2.kind .vmem s e} {hsrc : src.view.WordExact} {hdst : dst.view.WordExact}
    {k : PUnit → Prog (TpuEff nD τ sig (Elt F) Λ c.2) α} (ι : Ix) (N q u : ℕ) (hJ : dst.view.dmaCredit = q * N)
    {n : ℕ} {D : Fin n → sProp 𝕄} {j : ℕ} (hu : u + q * N ≤ N * j) {O : CellTallies nD τ sig Ix} {W : Waits sig Ix} :
    iprop(Transfers.Batch EC c (.dma sem) ι N D j u ∗ owes c O W ∗ Transfers.MayWaits c ι O)
      ⊢ iprop((iprop(Transfers.Batch EC c (.dma sem) ι N D j (u + q * N) ∗ owes c O (insert (SemLoc.dma sem, ι) W))
            -∗ wp frame (wpE defs 𝒱 c bd) Set.univ (k ⟨⟩) Q)
          -∗ wp frame (wpE defs 𝒱 c bd) Set.univ (waitIndirectGather sem src dst hsrc hdst >>= k) Q) := by
  rw [waitIndirectGather_bind]
  exact (Idealize.SL.BI.Laws.sep_mono .rfl (Idealize.SL.BI.Laws.sep_mono .rfl (Transfers.MayWaits.elim _))).trans (Transfers.wp_waitBatchMulO EC 𝒱 c bd ι q hJ hu)

/-- The last of a batch's waits: every transfer has landed. -/
theorem wp_waitLast [Infinite Name] [EC.LandsIn (upEmb : UEmb _ 𝕄)] {e' : EltTy} {sem : DmaSem sig}
    {src : Memref sig c.2.kind sp s₀ e'} {dst : Memref sig c.2.kind .vmem s e} {hsrc : src.view.WordExact} {hdst : dst.view.WordExact}
    {k : PUnit → Prog (TpuEff nD τ sig (Elt F) Λ c.2) α} (ι : Ix) (N J u : ℕ) (hJ : dst.view.dmaCredit = J) (hN : 0 < N)
    {n : ℕ} {D : Fin n → sProp 𝕄} (hu : u + J = N * n) {O : CellTallies nD τ sig Ix} {W : Waits sig Ix} :
    iprop(Transfers.Batch EC c (.dma sem) ι N D n u ∗ owes c O W ∗ Transfers.MayWaits c ι O)
      ⊢ iprop((iprop(bigSep Finset.univ D ∗ semVal (c, .dma sem) 0 ∗ owes c O (insert (SemLoc.dma sem, ι) W))
            -∗ wp frame (wpE defs 𝒱 c bd) Set.univ (k ⟨⟩) Q)
          -∗ wp frame (wpE defs 𝒱 c bd) Set.univ (waitIndirectGather sem src dst hsrc hdst >>= k) Q) := by
  rw [waitIndirectGather_bind]
  exact (Idealize.SL.BI.Laws.sep_mono .rfl (Idealize.SL.BI.Laws.sep_mono .rfl (Transfers.MayWaits.elim _))).trans (Transfers.wp_waitBatchAllO EC 𝒱 c bd ι hJ hN hu)

/-- What the batch delivered, gather by gather. -/
theorem delivered_seven (D : Fin 7 → Fin 128 → sProp 𝕄) :
    bigSep Finset.univ (slots D)
      ⊢ iprop(bigSep Finset.univ (D 0) ∗ bigSep Finset.univ (D 1) ∗ bigSep Finset.univ (D 2) ∗ bigSep Finset.univ (D 3)
          ∗ bigSep Finset.univ (D 4) ∗ bigSep Finset.univ (D 5) ∗ bigSep Finset.univ (D 6)) := by
  rw [bigSep_slots, ← bigSep_seven fun g => bigSep Finset.univ (D g)]
  exact Entails.of_eq (congrArg _ (funext fun g => congrArg _ (funext fun j => slots_slot D g j)))

end Cert.Proof.GatherBatch
-- ==== Proof.Common.lean ====
/-
  The program as the SparseCore launch theorem sees it, the resource algebra, and the arrays the SparseCore call works
  on, each with the share every tile reads it under.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Sc

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's tables -/

/-- The program's function labels, with its one pipeline's. -/
abbrev ΛP : Labels := Pipeline.Sig Λ₀ (Fin 1) fun p => (pcfgs (F := F) p).Adm
/-- The SparseCore configuration of the program. -/
abbrev K : SparseCore.Cfg τ sig (ΛP (F := F)) 1 := sc (F := F)
/-- The program's function table, with its pipeline's. -/
abbrev D [FloatOps F] : Defs nD τ sig (Elt F) (ΛP (F := F)) := Pipeline.defs pcfgs defs₀
/-- No loop variants are needed before the pipeline's. -/
abbrev 𝒱₀ : Variants := Variants.none
/-- The loop variants, with the pipeline's. -/
abbrev 𝒱 : Variants := 𝒱₀.lift
/-- The variant every call starts from. -/
abbrev v₀ : 𝒱.V := Sum.inl none

/-- The call uses sixteen subcores of each SparseCore. -/
theorem nSub_zero : (K (F := F)).nSub 0 = 16 := rfl
/-- The call uses two SparseCores. -/
theorem nCore_zero : (K (F := F)).nCore 0 = 2 := rfl

/-- The handshake semaphores are distinct and unscoped, and no buffer is shared by a SparseCore's tasks. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

/-- The rounds of the handshake semaphores. -/
abbrev UH : Type := URounds (GSem nD τ sig) ℕ
/-- The rounds of the pipeline's semaphores. -/
abbrev UP : Type := URounds (GSem nD τ sig) Unit
/-- All the ghost state: both kinds of rounds, and the counters. -/
abbrev UU : Type := UH × (UP × Counters)

local notation "𝕄" => MT nD τ sig (HIx 1) (Elt F) ℕ UU ℕ

/-- The handshakes' rounds in the whole resource. -/
abbrev EH : Emb UH (MT nD τ sig (HIx 1) (Elt F) ℕ UU ℕ) := embL
/-- The pipeline's rounds in the whole resource. -/
abbrev EP : Emb UP (MT nD τ sig (HIx 1) (Elt F) ℕ UU ℕ) := (Emb.inl : Emb UP (UP × Counters)).trans embR

/-! ## The arrays of the SparseCore call, as a tile addresses them -/

/-- The table of pair products, flat, as a tile addresses it. -/
abbrev hV : Memref sig .scVector .hbm S2250000 .f32 := Memref.whole main_v1_scv
/-- The column sums, as a tile addresses them. -/
abbrev sV : Memref sig .scVector .hbm S1500 .f32 := Memref.whole main_v2_scv
/-- The left columns of the implications, padded, as a tile addresses them. -/
abbrev ilV : Memref sig .scVector .hbm S12288 .i32 := Memref.whole main_v5_scv
/-- The right columns of the implications, padded, as a tile addresses them. -/
abbrev irV : Memref sig .scVector .hbm S12288 .i32 := Memref.whole main_v8_scv
/-- The left columns of the disjoint pairs, padded, as a tile addresses them. -/
abbrev dlV : Memref sig .scVector .hbm S4096 .i32 := Memref.whole main_v11_scv
/-- The right columns of the disjoint pairs, padded, as a tile addresses them. -/
abbrev drV : Memref sig .scVector .hbm S4096 .i32 := Memref.whole main_v14_scv
/-- The tiles' results, as a tile addresses them. -/
abbrev oV : Memref sig .scVector .hbm S32x3x16 .f32 := Memref.whole main_v15_scv
/-- Where the table of pair products lies on a device. -/
abbrev hLoc (d : Dev nD) : Loc nD τ sig := (SparseCore.T d).loc main_v1
/-- Where the column sums lie on a device. -/
abbrev sLoc (d : Dev nD) : Loc nD τ sig := (SparseCore.T d).loc main_v2
/-- Where the left columns of the implications lie on a device. -/
abbrev ilLoc (d : Dev nD) : Loc nD τ sig := (SparseCore.T d).loc main_v5
/-- Where the right columns of the implications lie on a device. -/
abbrev irLoc (d : Dev nD) : Loc nD τ sig := (SparseCore.T d).loc main_v8
/-- Where the left columns of the disjoint pairs lie on a device. -/
abbrev dlLoc (d : Dev nD) : Loc nD τ sig := (SparseCore.T d).loc main_v11
/-- Where the right columns of the disjoint pairs lie on a device. -/
abbrev drLoc (d : Dev nD) : Loc nD τ sig := (SparseCore.T d).loc main_v14
/-- Where the tiles' results lie on a device. -/
abbrev oLoc (d : Dev nD) : Loc nD τ sig := (SparseCore.T d).loc main_v15

/-- The SparseCore of a grid point. -/
abbrev cV (L : grid1.Coords) : Fin τ.nSC := (L 0).castLE hcore1
/-- The subcore of a grid point. -/
abbrev jV (L : grid1.Coords) : Fin τ.nSub := (L 1).castLE hsub1

/-- The output block of a tile, as the program slices it. -/
abbrev oRowK (L : grid1.Coords) : Memref sig .scVector .hbm S3x16 .f32 :=
  ((oV).slice (Rect.unit (s := S32x3x16) (k1_off3 L) S1x3x16.size (k1_off3_inb L)) (fun _ => rfl)).squeeze S3x16 squeezes_S1x3x16_S3x16

end Cert.KernelIdeal.Sc
-- ==== Proof.Lists.lean ====
/-
  What a tile computes, as functions of the arrays it reads.

  A tile takes a block of the two index lists, makes from them the positions it reads the two tables at (the word lists),
  reads the tables there, and adds the values lane by lane, a chunk of sixteen at a time, leaving out the positions past
  the lists' true lengths.
-/
module

public import proofs.«01_k».proof.Proof.Common
public import Idealize.ShloMosaic.Lib.Writes
public import Idealize.ShloMosaic.Lib.Pipeline.Value
public import Idealize.ShloMosaic.Lib.Pointwise.Index

@[expose] public section

set_option maxRecDepth 16384

noncomputable section

namespace Cert.KernelIdeal.Sc

open Cert.KernelIdeal Cert.KernelIdeal.Gen
open Idealize.ShloMosaic

variable {F : FTy → Type} [FloatOps F]

/-! ## The word lists -/

/-- The position in a tile's 384 words of word `l` of row `r`. -/
def at384 (y : S3x128.Idx) : S384.Idx :=
  ix1 ⟨128 * (y 0).val + (y 1).val, by have h0 : (y 0).val < 3 := (y 0).isLt; have h1 : (y 1).val < 128 := (y 1).isLt; omega⟩

/-- The row and the place in it of a tile's word. -/
def at3x128 (x : S384.Idx) : S3x128.Idx :=
  ix2 ⟨(x 0).val / 128, by have h : (x 0).val < 384 := (x 0).isLt; omega⟩ ⟨(x 0).val % 128, by omega⟩

/-- Going from a word to its row and place and back gives the word. -/
theorem at384_at3x128 (x : S384.Idx) : at384 (at3x128 x) = x := by
  refine funext fun a => Fin.ext ?_
  obtain rfl : a = 0 := Subsingleton.elim _ _
  show 128 * ((x 0).val / 128) + (x 0).val % 128 = (x 0).val
  omega

/-- The flat position of a pair in the table of 1500 rows of 1500. -/
def flat (a b : BitVec 32) : BitVec 32 := IntOp.addi (IntOp.muli a 1500#32) b

/-- The flat position of a pair of numbers less than 1500 is computed without wrapping. -/
theorem flat_toNat {a b : BitVec 32} (ha : a.toNat < 1500) (hb : b.toNat < 1500) : (flat a b).toNat = a.toNat * 1500 + b.toNat := by
  show (a * 1500#32 + b).toNat = _
  rw [BitVec.toNat_add, BitVec.toNat_mul]
  show (a.toNat * 1500 % 2 ^ 32 + b.toNat) % 2 ^ 32 = _
  omega

/-- The flat positions of a tile's pairs, in three rows of 128. -/
def flatWords (a b : S384.Idx → BitVec 32) : S3x128.Idx → BitVec 32 := fun y => flat (a (at384 y)) (b (at384 y))

/-- A tile's own words, in three rows of 128. -/
def rowWords (a : S384.Idx → BitVec 32) : S3x128.Idx → BitVec 32 := fun y => a (at384 y)

/-- The flat positions of a tile's second list of pairs. -/
def flatWordsD (a b : S128.Idx → BitVec 32) : S128.Idx → BitVec 32 := fun y => flat (a y) (b y)

/-- The element of a tile's 384 words that lane `x` of a chunk at row `r`, column `c` is. -/
theorem at384_emb {r c o : ℕ} (h : ∀ a, (![r, c] : Fin 2 → ℕ) a + S1x16.size a ≤ S3x128.size a)
    (h0 : ∀ a, (![o] : Fin 1 → ℕ) a + S16.size a ≤ S384.size a) (ho : o = 128 * r + c) (x : S1x16.Idx) :
    at384 ((Rect.unit (s := S3x128) ![r, c] S1x16.size h).emb x) = (Rect.unit (s := S384) ![o] S16.size h0).emb (fun a => x a.succ) := by
  refine funext fun a => Fin.ext ?_
  obtain rfl : a = 0 := Subsingleton.elim _ _
  have hx : (x 0).val = 0 := by have : (x 0).val < 1 := (x 0).isLt; omega
  show 128 * (r + 1 * (x 0).val) + (c + 1 * (x 1).val) = o + 1 * (x 1).val
  omega

/-- Sixteen words at `o`, reshaped, are the piece of the rows at row `r`, column `c`, if `o` is `128 r + c`. -/
theorem rowWords_piece {a : S384.Idx → BitVec 32} {a' : S16.Idx → BitVec 32} {r c o : ℕ}
    (h : ∀ a, (![r, c] : Fin 2 → ℕ) a + S1x16.size a ≤ S3x128.size a) (h0 : ∀ a, (![o] : Fin 1 → ℕ) a + S16.size a ≤ S384.size a)
    (ho : o = 128 * r + c) (ha : ∀ i, a' i = a ((Rect.unit (s := S384) ![o] S16.size h0).emb i)) (hc : S16.ShapeCasts S1x16) (x : S1x16.Idx) :
    shapeCast S1x16 a' hc x = rowWords a ((Rect.unit (s := S3x128) ![r, c] S1x16.size h).emb x) := by
  rw [rowWords, at384_emb h h0 ho]
  exact (shapeCast_addUnit_apply ![16] a' hc x).trans (ha _)

/-- The flat positions of the sixteen pairs at `o`, reshaped, are the piece of the rows at row `r`, column `c`, if `o` is `128 r + c`. -/
theorem flatWords_piece {a b : S384.Idx → BitVec 32} {a' b' : S16.Idx → BitVec 32} {r c o : ℕ}
    (h : ∀ a, (![r, c] : Fin 2 → ℕ) a + S1x16.size a ≤ S3x128.size a) (h0 : ∀ a, (![o] : Fin 1 → ℕ) a + S16.size a ≤ S384.size a)
    (ho : o = 128 * r + c) (ha : ∀ i, a' i = a ((Rect.unit (s := S384) ![o] S16.size h0).emb i))
    (hb : ∀ i, b' i = b ((Rect.unit (s := S384) ![o] S16.size h0).emb i)) (hc : S16.ShapeCasts S1x16) (x : S1x16.Idx) :
    shapeCast S1x16 (addi (muli a' (broadcast S16 1500#32)) b') hc x = flatWords a b ((Rect.unit (s := S3x128) ![r, c] S1x16.size h).emb x) := by
  rw [flatWords, at384_emb h h0 ho]
  exact (shapeCast_addUnit_apply ![16] _ hc x).trans (congrArg₂ flat (ha _) (hb _))

/-- The flat positions of the sixteen pairs at `o` are the piece at `o` of the second list's. -/
theorem flatWordsD_piece {a b : S128.Idx → BitVec 32} {a' b' : S16.Idx → BitVec 32} {o : ℕ} (h0 : ∀ a, (![o] : Fin 1 → ℕ) a + S16.size a ≤ S128.size a)
    (ha : ∀ i, a' i = a ((Rect.unit (s := S128) ![o] S16.size h0).emb i)) (hb : ∀ i, b' i = b ((Rect.unit (s := S128) ![o] S16.size h0).emb i))
    (hc : S16.ShapeCasts S16) (x : S16.Idx) :
    shapeCast S16 (addi (muli a' (broadcast S16 1500#32)) b') hc x = flatWordsD a b ((Rect.unit (s := S128) ![o] S16.size h0).emb x) := by
  rw [shapeCast_self]
  exact congrArg₂ flat (ha _) (hb _)

/-- A load of a buffer just filled whole reads what it was filled with. -/
theorem load_filled {κ : Kind} (b : Ref sig κ) (f w : b.ty.Contents (Elt F)) (R : Rect b.ty.shape) (i : R.shape.Idx) :
    View.readAt (Elt F) (Memref.whole b).view R.toLoadRect ((Memref.whole b).view.write (Elt F) f w Finset.univ) i = w (R.emb i) := by
  have e : (Memref.whole b).view.write (Elt F) f w Finset.univ = w := View.write_whole_univ b f w
  rw [e]; rfl

/-- A buffer written through pieces that cover it and agree with `G` holds `G`. -/
theorem writes_eq {κ : Kind} (b : Ref sig κ) (f G : b.ty.Contents (Elt F)) (L : List (View.Piece (Elt F) b.ty.shape b.ty.elt))
    (hG : ∀ p ∈ L, ∀ x : p.1.shape.Idx, p.2 x = G (p.1.emb x)) (hc : ∀ y, ∃ p ∈ L, y ∈ p.1.set) :
    (Memref.whole b).view.writes (Elt F) f L = G :=
  funext fun y => View.read_writes_apply_of_pieces (View.whole b) f G L hG y (hc y)

/-- What a load of sixteen words of a filled buffer reads. -/
abbrev loaded {κ : Kind} (b : Ref sig κ) (f w : b.ty.Contents (Elt F)) (R : Rect b.ty.shape) : R.shape.Idx → Elt F b.ty.elt :=
  View.readAt (Elt F) (Memref.whole b).view R.toLoadRect ((Memref.whole b).view.write (Elt F) f w Finset.univ)

/-- The flat positions of the sixteen pairs the program loads from its two scratch lists at `o` are the piece of the rows at row `r`, column `c`. -/
theorem flat_piece {f0 w0 : cc1_scratch0.ty.Contents (Elt F)} {f1 w1 : cc1_scratch1.ty.Contents (Elt F)} {r c o : ℕ}
    {h : ∀ a, (![r, c] : Fin 2 → ℕ) a + S1x16.size a ≤ S3x128.size a} {h0 : ∀ a, (![o] : Fin 1 → ℕ) a + S16.size a ≤ S384.size a}
    {hc : S16.ShapeCasts S1x16} {hs : S16.ShapeCasts S16} (ho : o = 128 * r + c) (x : S1x16.Idx) :
    shapeCast S1x16 (addi (muli (shapeCast S16 (loaded cc1_scratch0 f0 w0 (Rect.unit (s := S384) ![o] S16.size h0)) hs) (broadcast S16 1500#32))
        (shapeCast S16 (loaded cc1_scratch1 f1 w1 (Rect.unit (s := S384) ![o] S16.size h0)) hs)) hc x
      = flatWords w0 w1 ((Rect.unit (s := S3x128) ![r, c] S1x16.size h).emb x) :=
  flatWords_piece h h0 ho (fun i => (congrFun (shapeCast_self _ _) i).trans (load_filled cc1_scratch0 f0 w0 (Rect.unit (s := S384) ![o] S16.size h0) i))
    (fun i => (congrFun (shapeCast_self _ _) i).trans (load_filled cc1_scratch1 f1 w1 (Rect.unit (s := S384) ![o] S16.size h0) i)) hc x

/-- The sixteen words the program loads from its scratch list at `o` are the piece of the rows at row `r`, column `c`. -/
theorem row_piece {f0 w0 : cc1_scratch0.ty.Contents (Elt F)} {r c o : ℕ}
    {h : ∀ a, (![r, c] : Fin 2 → ℕ) a + S1x16.size a ≤ S3x128.size a} {h0 : ∀ a, (![o] : Fin 1 → ℕ) a + S16.size a ≤ S384.size a}
    {hc : S16.ShapeCasts S1x16} {hs : S16.ShapeCasts S16} (ho : o = 128 * r + c) (x : S1x16.Idx) :
    shapeCast S1x16 (shapeCast S16 (loaded cc1_scratch0 f0 w0 (Rect.unit (s := S384) ![o] S16.size h0)) hs) hc x
      = rowWords w0 ((Rect.unit (s := S3x128) ![r, c] S1x16.size h).emb x) :=
  rowWords_piece h h0 ho (fun i => (congrFun (shapeCast_self _ _) i).trans (load_filled cc1_scratch0 f0 w0 (Rect.unit (s := S384) ![o] S16.size h0) i)) hc x

/-- The flat positions of the sixteen pairs the program loads from its second two scratch lists at `o` are the piece at `o`. -/
theorem flatD_piece {f2 w2 : cc1_scratch2.ty.Contents (Elt F)} {f3 w3 : cc1_scratch3.ty.Contents (Elt F)} {o : ℕ}
    {h0 : ∀ a, (![o] : Fin 1 → ℕ) a + S16.size a ≤ S128.size a} {hc hs : S16.ShapeCasts S16} (x : S16.Idx) :
    shapeCast S16 (addi (muli (shapeCast S16 (loaded cc1_scratch2 f2 w2 (Rect.unit (s := S128) ![o] S16.size h0)) hs) (broadcast S16 1500#32))
        (shapeCast S16 (loaded cc1_scratch3 f3 w3 (Rect.unit (s := S128) ![o] S16.size h0)) hs)) hc x
      = flatWordsD w2 w3 ((Rect.unit (s := S128) ![o] S16.size h0).emb x) :=
  flatWordsD_piece h0 (fun i => (congrFun (shapeCast_self _ _) i).trans (load_filled cc1_scratch2 f2 w2 (Rect.unit (s := S128) ![o] S16.size h0) i))
    (fun i => (congrFun (shapeCast_self _ _) i).trans (load_filled cc1_scratch3 f3 w3 (Rect.unit (s := S128) ![o] S16.size h0) i)) hc x

/-! ## A tile's block of the arrays -/

/-- The number of a tile. -/
def wid (L : grid1.Coords) : ℕ := 2 * (L 1).val + (L 0).val

/-- A tile's number is less than 32. -/
theorem wid_lt (L : grid1.Coords) : wid L < 32 := by
  have h0 : (L 0).val < 2 := (L 0).isLt
  have h1 : (L 1).val < 16 := (L 1).isLt
  unfold wid; omega

/-- Tile number `w`'s 384 words of a list of 12288. -/
def tileWords (w : ℕ) (hw : w < 32) (f : S12288.Idx → BitVec 32) : S384.Idx → BitVec 32 :=
  fun x => f (ix1 ⟨384 * w + (x 0).val, by have h : (x 0).val < 384 := (x 0).isLt; omega⟩)

/-- Tile number `w`'s 128 words of a list of 4096. -/
def tileWordsD (w : ℕ) (hw : w < 32) (f : S4096.Idx → BitVec 32) : S128.Idx → BitVec 32 :=
  fun x => f (ix1 ⟨128 * w + (x 0).val, by have h : (x 0).val < 128 := (x 0).isLt; omega⟩)

/-- The slice of the implications' left columns a tile copies is its 384 words. -/
theorem il_words (L : grid1.Coords) (f : main_v5_scv.ty.Contents (Elt F)) :
    View.read (Elt F) (ilV.slice (Rect.unit (s := S12288) (k1_off1 L) S384.size (k1_off1_inb L)) (fun _ => rfl)).view f = tileWords (wid L) (wid_lt L) f := by
  refine funext fun x => congrArg f (funext fun a => Fin.ext ?_)
  match a with
  | ⟨0, _⟩ =>
    have e : k1_off1 L 0 = 768 * (L 1).val + 384 * (L 0).val := congrFun (k1_off1_eq L) 0
    show k1_off1 L 0 + 1 * (x 0).val = 384 * wid L + (x 0).val
    unfold wid; omega

/-- The slice of the implications' right columns a tile copies is its 384 words. -/
theorem ir_words (L : grid1.Coords) (f : main_v8_scv.ty.Contents (Elt F)) :
    View.read (Elt F) (irV.slice (Rect.unit (s := S12288) (k1_off1 L) S384.size (k1_off1_inb L)) (fun _ => rfl)).view f = tileWords (wid L) (wid_lt L) f :=
  il_words L f

/-- The slice of the disjoint pairs' left columns a tile copies is its 128 words. -/
theorem dl_words (L : grid1.Coords) (f : main_v11_scv.ty.Contents (Elt F)) :
    View.read (Elt F) (dlV.slice (Rect.unit (s := S4096) (k1_off2 L) S128.size (k1_off2_inb L)) (fun _ => rfl)).view f = tileWordsD (wid L) (wid_lt L) f := by
  refine funext fun x => congrArg f (funext fun a => Fin.ext ?_)
  match a with
  | ⟨0, _⟩ =>
    have e : k1_off2 L 0 = 256 * (L 1).val + 128 * (L 0).val := congrFun (k1_off2_eq L) 0
    show k1_off2 L 0 + 1 * (x 0).val = 128 * wid L + (x 0).val
    unfold wid; omega

/-- The slice of the disjoint pairs' right columns a tile copies is its 128 words. -/
theorem dr_words (L : grid1.Coords) (f : main_v14_scv.ty.Contents (Elt F)) :
    View.read (Elt F) (drV.slice (Rect.unit (s := S4096) (k1_off2 L) S128.size (k1_off2_inb L)) (fun _ => rfl)).view f = tileWordsD (wid L) (wid_lt L) f :=
  dl_words L f

/-! ## Values read and added -/

/-- The table of pairs at a flat position. -/
def pickH (f : S2250000.Idx → F .f32) (w : BitVec 32) : F .f32 := f (ix1 ⟨w.toNat % 2250000, Nat.mod_lt _ (by decide)⟩)

/-- The table of labels at a position. -/
def pickS (f : S1500.Idx → F .f32) (w : BitVec 32) : F .f32 := f (ix1 ⟨w.toNat % 1500, Nat.mod_lt _ (by decide)⟩)

/-- What one chunk of sixteen adds: the values whose position, `base + 16 k +` lane, lies under `bound`, zero elsewhere. -/
def chunkStep (base bound : BitVec 32) (k : ℕ) (v : S16.Idx → F .f32) : S16.Idx → F .f32 :=
  select (cmpi .slt (addi (broadcast S16 (IntOp.addi base (BitVec.ofNat 32 (16 * k)))) (iota .scVector S16 32 [0] iota_S16_d0_w32_scVector)) (broadcast S16 bound))
    v (broadcast S16 (Scalar.ofBits .f32 0x00000000#32))

/-- The first `n` chunks added up, in order, from zero. -/
def chunkSum (base bound : BitVec 32) (v : ℕ → S16.Idx → F .f32) : ℕ → S16.Idx → F .f32
  | 0 => broadcast S16 (Scalar.ofBits .f32 0x00000000#32)
  | n + 1 => addf (chunkSum base bound v n) (chunkStep base bound n (v n))

/-- Chunk `k` of `n` values. -/
def chunkOf {n : ℕ} (hn : 0 < n) (g : (⟨1, ![n]⟩ : Shape).Idx → F .f32) (k : ℕ) : S16.Idx → F .f32 :=
  fun i => g (ix1 ⟨(16 * k + (i 0).val) % n, Nat.mod_lt _ hn⟩)

end Cert.KernelIdeal.Sc
-- ==== Proof.Gather.lean ====
/-
  The tile's seven gathers, one at a time: which elements they touch and what they bring.

  A tile's scratch of three rows of words is its three rows; its scratch of 384 values is three blocks of 128. A gather reads
  a table whole, at the places a row of words names, into a block.
-/
module

public import proofs.«01_k».proof.Proof.Lists
public import proofs.«01_k».proof.Proof.GatherBatch

@[expose] public section

set_option maxRecDepth 16384

noncomputable section

namespace Cert.KernelIdeal.Sc

open Cert.KernelIdeal Cert.KernelIdeal.Gen
open Idealize.ShloMosaic
open Idealize.ShloMosaic.SparseCore (S V gatherPayload rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof

variable {F : FTy → Type} [FloatOps F]

local notation "𝕄" => MT nD τ sig (HIx 1) (Elt F) ℕ UU ℕ

/-! ## The memrefs -/

/-- The table of pairs, as a gather reads it. -/
abbrev hSrc : Memref sig .scVector .hbm S2250000 .f32 :=
  hV.slice (Rect.unit (s := S2250000) ![0] S2250000.size inb_S2250000_S2250000_0) (fun _ => rfl)
/-- The table of labels, as a gather reads it. -/
abbrev sSrc : Memref sig .scVector .hbm S1500 .f32 :=
  sV.slice (Rect.unit (s := S1500) ![0] S1500.size inb_S1500_S1500_0) (fun _ => rfl)
/-- Row `g` of three rows of words. -/
abbrev rowOf (m : Memref sig .scVector .vmem S3x128 .i32) (g : ℕ) (h : ∀ a, (![g, 0] : Fin 2 → ℕ) a + S1x128.size a ≤ S3x128.size a) :
    Memref sig .scVector .vmem S128 .i32 :=
  (m.slice (Rect.unit (s := S3x128) ![g, 0] S1x128.size h) (fun _ => rfl)).squeeze S128 squeezes_S1x128_S128
/-- The block of 128 values at `o`. -/
abbrev blkOf (m : Memref sig .scVector .vmem S384 .f32) (o : ℕ) (h : ∀ a, (![o] : Fin 1 → ℕ) a + S128.size a ≤ S384.size a) :
    Memref sig .scVector .vmem S128 .f32 :=
  m.slice (Rect.unit (s := S384) ![o] S128.size h) (fun _ => rfl)

/-! ## The elements -/

/-- The gathers from the table of pair products read all of it. -/
theorem hSrc_set : hSrc.view.set = Finset.univ := by
  refine Finset.eq_univ_of_forall fun i => ?_
  rw [View.set_slice_whole]
  exact View.mem_set_unit_zero (S := S2250000) (funext fun a => by match a with | ⟨0, _⟩ => rfl) _ i

/-- The gathers from the column sums read all of them. -/
theorem sSrc_set : sSrc.view.set = Finset.univ := by
  refine Finset.eq_univ_of_forall fun i => ?_
  rw [View.set_slice_whole]
  exact View.mem_set_unit_zero (S := S1500) (funext fun a => by match a with | ⟨0, _⟩ => rfl) _ i

/-- An array in three parts. -/
theorem pointsTo_three {ℓ : Loc nD τ sig} {A B C : Finset (Idx ℓ)} (hAB : Disjoint A B) (hAC : Disjoint A C) (hBC : Disjoint B C)
    (hU : ∀ i, i ∈ A ∨ i ∈ B ∨ i ∈ C) (q : PosShare TreeShare) (f : Buf (Elt F) ℓ) :
    (ℓ ↦{q} f : sProp 𝕄) = iprop((ℓ ↦[A]{q} f) ∗ (ℓ ↦[B]{q} f) ∗ (ℓ ↦[C]{q} f)) := by
  have e : (Finset.univ : Finset (Idx ℓ)) = A ∪ (B ∪ C) := by
    ext i; exact ⟨fun _ => Finset.mem_union.mpr ((hU i).imp_right Finset.mem_union.mpr), fun _ => Finset.mem_univ i⟩
  rw [e, Entails.antisymm (pointsTo_union (Finset.disjoint_union_right.mpr ⟨hAB, hAC⟩)).1 (pointsTo_union (Finset.disjoint_union_right.mpr ⟨hAB, hAC⟩)).2,
    Entails.antisymm (pointsTo_union hBC).1 (pointsTo_union hBC).2]

/-- A place lies in row `g` of the three exactly if its row number is `g`. -/
theorem mem_rowRect {g : ℕ} {h : ∀ a, (![g, 0] : Fin 2 → ℕ) a + S1x128.size a ≤ S3x128.size a} {i : S3x128.Idx} :
    i ∈ (Rect.unit (s := S3x128) ![g, 0] S1x128.size h).set ↔ (i 0).val = g := by
  rw [Rect.mem_set_unit]
  constructor
  · intro hh
    have h0 : g ≤ (i 0).val ∧ (i 0).val < g + 1 := hh 0
    omega
  · intro e a
    match a with
    | ⟨0, _⟩ => show g ≤ (i 0).val ∧ (i 0).val < g + 1; omega
    | ⟨1, _⟩ => have := (i 1).isLt; exact ⟨Nat.zero_le _, by show (i 1).val < 0 + 128; have h1 : (i 1).val < 128 := (i 1).isLt; omega⟩

/-- A place lies in the block of 128 at `o` exactly if its number is `o` or more and less than `o + 128`. -/
theorem mem_blkRect {o : ℕ} {h : ∀ a, (![o] : Fin 1 → ℕ) a + S128.size a ≤ S384.size a} {i : S384.Idx} :
    i ∈ (Rect.unit (s := S384) ![o] S128.size h).set ↔ o ≤ (i 0).val ∧ (i 0).val < o + 128 := by
  rw [Rect.mem_set_unit]
  constructor
  · intro hh
    exact hh 0
  · intro e a
    match a with
    | ⟨0, _⟩ => exact e

/-- Two different rows share no place. -/
theorem rows_disjoint {g g' : ℕ} {h h'} (hne : g ≠ g') :
    Disjoint (Rect.unit (s := S3x128) ![g, 0] S1x128.size h).set (Rect.unit (s := S3x128) ![g', 0] S1x128.size h').set :=
  Finset.disjoint_left.mpr fun i hi hi' => hne ((mem_rowRect.mp hi).symm.trans (mem_rowRect.mp hi'))

/-- Every place lies in one of the three rows. -/
theorem rows_cover (i : S3x128.Idx) : i ∈ (Rect.unit (s := S3x128) ![0, 0] S1x128.size inb_S3x128_S1x128_0_0).set
    ∨ i ∈ (Rect.unit (s := S3x128) ![1, 0] S1x128.size inb_S3x128_S1x128_1_0).set
    ∨ i ∈ (Rect.unit (s := S3x128) ![2, 0] S1x128.size inb_S3x128_S1x128_2_0).set := by
  rw [mem_rowRect, mem_rowRect, mem_rowRect]
  have h : (i 0).val < 3 := (i 0).isLt
  omega

/-- Two blocks of 128, one ending before the other starts, share no place. -/
theorem blks_disjoint {o o' : ℕ} {h h'} (hne : o + 128 ≤ o') :
    Disjoint (Rect.unit (s := S384) ![o] S128.size h).set (Rect.unit (s := S384) ![o'] S128.size h').set :=
  Finset.disjoint_left.mpr fun i hi hi' => by
    have a := mem_blkRect.mp hi
    have b := mem_blkRect.mp hi'
    omega

/-- Every place lies in one of the three blocks of 128. -/
theorem blks_cover (i : S384.Idx) : i ∈ (Rect.unit (s := S384) ![0] S128.size inb_S384_S128_0).set
    ∨ i ∈ (Rect.unit (s := S384) ![128] S128.size inb_S384_S128_128).set
    ∨ i ∈ (Rect.unit (s := S384) ![256] S128.size inb_S384_S128_256).set := by
  rw [mem_blkRect, mem_blkRect, mem_blkRect]
  have h : (i 0).val < 384 := (i 0).isLt
  omega

section Tile
variable (d : Dev nD) (L : grid1.Coords)

/-- Scratch 4, row by row. -/
theorem scratch4_rows (f : Buf (Elt F) ((V d (cV L) (jV L)).loc cc1_scratch4)) :
    ((Memref.whole cc1_scratch4).view.loc (V d (cV L) (jV L)) ↦{fullShare} f : sProp 𝕄)
      = iprop(((rowOf (Memref.whole cc1_scratch4) 0 inb_S3x128_S1x128_0_0).view.loc (V d (cV L) (jV L))
            ↦[(rowOf (Memref.whole cc1_scratch4) 0 inb_S3x128_S1x128_0_0).view.set]{fullShare} f)
        ∗ ((rowOf (Memref.whole cc1_scratch4) 1 inb_S3x128_S1x128_1_0).view.loc (V d (cV L) (jV L))
            ↦[(rowOf (Memref.whole cc1_scratch4) 1 inb_S3x128_S1x128_1_0).view.set]{fullShare} f)
        ∗ ((rowOf (Memref.whole cc1_scratch4) 2 inb_S3x128_S1x128_2_0).view.loc (V d (cV L) (jV L))
            ↦[(rowOf (Memref.whole cc1_scratch4) 2 inb_S3x128_S1x128_2_0).view.set]{fullShare} f)) := by
  have e : ∀ g h, (rowOf (Memref.whole cc1_scratch4) g h).view.set = (Rect.unit (s := S3x128) ![g, 0] S1x128.size h).set := fun g h =>
    (View.set_reshape _ _).trans (View.set_slice_whole cc1_scratch4 _)
  refine pointsTo_three ?_ ?_ ?_ ?_ fullShare f
  · rw [e, e]; exact rows_disjoint (by decide)
  · rw [e, e]; exact rows_disjoint (by decide)
  · rw [e, e]; exact rows_disjoint (by decide)
  · intro i; rw [e, e, e]; exact rows_cover i

/-- Scratch 5, row by row. -/
theorem scratch5_rows (f : Buf (Elt F) ((V d (cV L) (jV L)).loc cc1_scratch5)) :
    ((Memref.whole cc1_scratch5).view.loc (V d (cV L) (jV L)) ↦{fullShare} f : sProp 𝕄)
      = iprop(((rowOf (Memref.whole cc1_scratch5) 0 inb_S3x128_S1x128_0_0).view.loc (V d (cV L) (jV L))
            ↦[(rowOf (Memref.whole cc1_scratch5) 0 inb_S3x128_S1x128_0_0).view.set]{fullShare} f)
        ∗ ((rowOf (Memref.whole cc1_scratch5) 1 inb_S3x128_S1x128_1_0).view.loc (V d (cV L) (jV L))
            ↦[(rowOf (Memref.whole cc1_scratch5) 1 inb_S3x128_S1x128_1_0).view.set]{fullShare} f)
        ∗ ((rowOf (Memref.whole cc1_scratch5) 2 inb_S3x128_S1x128_2_0).view.loc (V d (cV L) (jV L))
            ↦[(rowOf (Memref.whole cc1_scratch5) 2 inb_S3x128_S1x128_2_0).view.set]{fullShare} f)) := by
  have e : ∀ g h, (rowOf (Memref.whole cc1_scratch5) g h).view.set = (Rect.unit (s := S3x128) ![g, 0] S1x128.size h).set := fun g h =>
    (View.set_reshape _ _).trans (View.set_slice_whole cc1_scratch5 _)
  refine pointsTo_three ?_ ?_ ?_ ?_ fullShare f
  · rw [e, e]; exact rows_disjoint (by decide)
  · rw [e, e]; exact rows_disjoint (by decide)
  · rw [e, e]; exact rows_disjoint (by decide)
  · intro i; rw [e, e, e]; exact rows_cover i

/-- Scratch 7, block by block. -/
theorem scratch7_blks (f : Buf (Elt F) ((V d (cV L) (jV L)).loc cc1_scratch7)) :
    ((Memref.whole cc1_scratch7).view.loc (V d (cV L) (jV L)) ↦{fullShare} f : sProp 𝕄)
      = iprop(((blkOf (Memref.whole cc1_scratch7) 0 inb_S384_S128_0).view.loc (V d (cV L) (jV L))
            ↦[(blkOf (Memref.whole cc1_scratch7) 0 inb_S384_S128_0).view.set]{fullShare} f)
        ∗ ((blkOf (Memref.whole cc1_scratch7) 128 inb_S384_S128_128).view.loc (V d (cV L) (jV L))
            ↦[(blkOf (Memref.whole cc1_scratch7) 128 inb_S384_S128_128).view.set]{fullShare} f)
        ∗ ((blkOf (Memref.whole cc1_scratch7) 256 inb_S384_S128_256).view.loc (V d (cV L) (jV L))
            ↦[(blkOf (Memref.whole cc1_scratch7) 256 inb_S384_S128_256).view.set]{fullShare} f)) := by
  have e : ∀ g h, (blkOf (Memref.whole cc1_scratch7) g h).view.set = (Rect.unit (s := S384) ![g] S128.size h).set := fun g h =>
    View.set_slice_whole cc1_scratch7 _
  refine pointsTo_three ?_ ?_ ?_ ?_ fullShare f
  · rw [e, e]; exact blks_disjoint (by decide)
  · rw [e, e]; exact blks_disjoint (by decide)
  · rw [e, e]; exact blks_disjoint (by decide)
  · intro i; rw [e, e, e]; exact blks_cover i

/-- Scratch 8, block by block. -/
theorem scratch8_blks (f : Buf (Elt F) ((V d (cV L) (jV L)).loc cc1_scratch8)) :
    ((Memref.whole cc1_scratch8).view.loc (V d (cV L) (jV L)) ↦{fullShare} f : sProp 𝕄)
      = iprop(((blkOf (Memref.whole cc1_scratch8) 0 inb_S384_S128_0).view.loc (V d (cV L) (jV L))
            ↦[(blkOf (Memref.whole cc1_scratch8) 0 inb_S384_S128_0).view.set]{fullShare} f)
        ∗ ((blkOf (Memref.whole cc1_scratch8) 128 inb_S384_S128_128).view.loc (V d (cV L) (jV L))
            ↦[(blkOf (Memref.whole cc1_scratch8) 128 inb_S384_S128_128).view.set]{fullShare} f)
        ∗ ((blkOf (Memref.whole cc1_scratch8) 256 inb_S384_S128_256).view.loc (V d (cV L) (jV L))
            ↦[(blkOf (Memref.whole cc1_scratch8) 256 inb_S384_S128_256).view.set]{fullShare} f)) := by
  have e : ∀ g h, (blkOf (Memref.whole cc1_scratch8) g h).view.set = (Rect.unit (s := S384) ![g] S128.size h).set := fun g h =>
    View.set_slice_whole cc1_scratch8 _
  refine pointsTo_three ?_ ?_ ?_ ?_ fullShare f
  · rw [e, e]; exact blks_disjoint (by decide)
  · rw [e, e]; exact blks_disjoint (by decide)
  · rw [e, e]; exact blks_disjoint (by decide)
  · intro i; rw [e, e, e]; exact blks_cover i

end Tile

/-! ## The values -/

/-- A read of row `g` of three rows of words is the row. -/
theorem row_read4 {g : ℕ} (h : ∀ a, (![g, 0] : Fin 2 → ℕ) a + S1x128.size a ≤ S3x128.size a) (hg : g < 3) (f : cc1_scratch4.ty.Contents (Elt F)) (y : S128.Idx) :
    View.read (Elt F) (rowOf (Memref.whole cc1_scratch4) g h).view f y = f (ix2 ⟨g, hg⟩ (y 0)) := by
  refine (shapeCast_dropUnit_apply ![128] (View.read (Elt F) ((Memref.whole cc1_scratch4).slice (Rect.unit (s := S3x128) ![g, 0] S1x128.size h) (fun _ => rfl)).view f)
    (by decide) y).trans (congrArg f (funext fun a => Fin.ext ?_))
  match a with
  | ⟨0, _⟩ => show g + 1 * 0 = g; omega
  | ⟨1, _⟩ => show 0 + 1 * (y 0).val = (y 0).val; omega

/-- Row `g` of the second list of positions, read as a list of 128. -/
theorem row_read5 {g : ℕ} (h : ∀ a, (![g, 0] : Fin 2 → ℕ) a + S1x128.size a ≤ S3x128.size a) (hg : g < 3) (f : cc1_scratch5.ty.Contents (Elt F)) (y : S128.Idx) :
    View.read (Elt F) (rowOf (Memref.whole cc1_scratch5) g h).view f y = f (ix2 ⟨g, hg⟩ (y 0)) :=
  row_read4 h hg f y

/-- Entry `k` of a list of 128 is at place `k`. -/
theorem entry128 (hn : S128.numel = 128) (k : Fin 128) : S128.rowMajor.symm (k.cast hn.symm) = ix1 k := by
  rw [Equiv.symm_apply_eq]
  refine Fin.ext ?_
  rw [Shape.rowMajor_val_one]
  rfl

/-- What a gather of the table of pairs brings, at each place. -/
theorem payload_h (w : S128.Idx → BitVec 32) (hn : S128.numel = S128.size gathers_S2250000_S128.axis') (fH : main_v1_scv.ty.Contents (Elt F))
    (hin : ∀ x, (w x).toNat < S2250000.size gathers_S2250000_S128.axis) (x : S128.Idx) :
    gatherPayload gathers_S2250000_S128 (View.read (Elt F) hSrc.view fH) (rows (F := F) w hn hin) x = pickH fH (w x) := by
  refine congrArg fH (funext fun a => Fin.ext ?_)
  match a with
  | ⟨0, _⟩ =>
    have e : S128.rowMajor.symm (((x 0 : Fin 128)).cast hn.symm) = x := (entry128 hn (x 0)).trans (eq_ix1 x).symm
    have hlt : (w x).toNat < 2250000 := hin x
    show 0 + 1 * (w (S128.rowMajor.symm (((x 0 : Fin 128)).cast hn.symm))).toNat = (w x).toNat % 2250000
    rw [e, Nat.mod_eq_of_lt hlt]; omega

/-- What a gather of the table of labels brings, at each place. -/
theorem payload_s (w : S128.Idx → BitVec 32) (hn : S128.numel = S128.size gathers_S1500_S128.axis') (fS : main_v2_scv.ty.Contents (Elt F))
    (hin : ∀ x, (w x).toNat < S1500.size gathers_S1500_S128.axis) (x : S128.Idx) :
    gatherPayload gathers_S1500_S128 (View.read (Elt F) sSrc.view fS) (rows (F := F) w hn hin) x = pickS fS (w x) := by
  refine congrArg fS (funext fun a => Fin.ext ?_)
  match a with
  | ⟨0, _⟩ =>
    have e : S128.rowMajor.symm (((x 0 : Fin 128)).cast hn.symm) = x := (entry128 hn (x 0)).trans (eq_ix1 x).symm
    have hlt : (w x).toNat < 1500 := hin x
    show 0 + 1 * (w (S128.rowMajor.symm (((x 0 : Fin 128)).cast hn.symm))).toNat = (w x).toNat % 1500
    rw [e, Nat.mod_eq_of_lt hlt]; omega

/-- The row and the place of element `x` of the block at `128 g`. -/
theorem at3x128_blk {g o : ℕ} (hg : g < 3) (ho : o = 128 * g) (h : ∀ a, (![o] : Fin 1 → ℕ) a + S128.size a ≤ S384.size a) (x : S128.Idx) :
    at3x128 ((Rect.unit (s := S384) ![o] S128.size h).emb x) = ix2 ⟨g, hg⟩ (x 0) := by
  have hx : (x 0).val < 128 := (x 0).isLt
  refine funext fun a => Fin.ext ?_
  match a with
  | ⟨0, _⟩ => show (o + 1 * (x 0).val) / 128 = g; omega
  | ⟨1, _⟩ => show (o + 1 * (x 0).val) % 128 = (x 0).val; omega

/-- The flat position of a pair of labels is a position of the table. -/
theorem flat_lt {a b : BitVec 32} (ha : a.toNat < 1500) (hb : b.toNat < 1500) : (flat a b).toNat < 2250000 := by
  rw [flat_toNat ha hb]; omega

/-! ## The shares of the tables the gathers read under -/

section Shares
variable (d : Dev nD) (L : grid1.Coords) (q : PosShare TreeShare)

/-- A product over four is the four factors. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  rw [BI.bigSep_insert (by decide), BI.bigSep_insert (by decide), BI.bigSep_insert (by decide), BI.bigSep_singleton]
  rfl

/-- A product over three is the three factors. -/
theorem bigSep_three (Φ : Fin 3 → sProp 𝕄) : bigSep Finset.univ Φ = iprop(Φ 0 ∗ Φ 1 ∗ Φ 2) := by
  rw [show (Finset.univ : Finset (Fin 3)) = {0, 1, 2} by decide]
  rw [BI.bigSep_insert (by decide), BI.bigSep_insert (by decide), BI.bigSep_singleton]
  rfl

/-- A share of the table of pair products is its four pieces, one for each gather that reads the table. -/
theorem h_shares (fH : Buf (Elt F) (hLoc d)) :
    (hV.view.loc (V d (cV L) (jV L)) ↦{q} fH : sProp 𝕄)
      = iprop((hSrc.view.loc (V d (cV L) (jV L)) ↦[hSrc.view.set]{pieceOf q 4 (by decide) 0} fH)
        ∗ (hSrc.view.loc (V d (cV L) (jV L)) ↦[hSrc.view.set]{pieceOf q 4 (by decide) 1} fH)
        ∗ (hSrc.view.loc (V d (cV L) (jV L)) ↦[hSrc.view.set]{pieceOf q 4 (by decide) 2} fH)
        ∗ (hSrc.view.loc (V d (cV L) (jV L)) ↦[hSrc.view.set]{pieceOf q 4 (by decide) 3} fH)) := by
  rw [hSrc_set, ← bigSep_four fun k => (hSrc.view.loc (V d (cV L) (jV L)) ↦{pieceOf q 4 (by decide) k} fH : sProp 𝕄)]
  exact pointsTo_piecesOf Finset.univ fH (by decide) q

/-- A share of the column sums is its three pieces, one for each gather that reads them. -/
theorem s_shares (fS : Buf (Elt F) (sLoc d)) :
    (sV.view.loc (V d (cV L) (jV L)) ↦{q} fS : sProp 𝕄)
      = iprop((sSrc.view.loc (V d (cV L) (jV L)) ↦[sSrc.view.set]{pieceOf q 3 (by decide) 0} fS)
        ∗ (sSrc.view.loc (V d (cV L) (jV L)) ↦[sSrc.view.set]{pieceOf q 3 (by decide) 1} fS)
        ∗ (sSrc.view.loc (V d (cV L) (jV L)) ↦[sSrc.view.set]{pieceOf q 3 (by decide) 2} fS)) := by
  rw [sSrc_set, ← bigSep_three fun k => (sSrc.view.loc (V d (cV L) (jV L)) ↦{pieceOf q 3 (by decide) k} fS : sProp 𝕄)]
  exact pointsTo_piecesOf Finset.univ fS (by decide) q

end Shares

/-! ## What the seven gathers deliver -/

section Deliver
variable (d : Dev nD) (L : grid1.Coords) (qh : Fin 4 → PosShare TreeShare) (qs : Fin 3 → PosShare TreeShare)
  (fH : Buf (Elt F) (hLoc d)) (fS : Buf (Elt F) (sLoc d))
  (f7 : Buf (Elt F) ((V d (cV L) (jV L)).loc cc1_scratch7)) (f8 : Buf (Elt F) ((V d (cV L) (jV L)).loc cc1_scratch8))
  (f9 : Buf (Elt F) ((V d (cV L) (jV L)).loc cc1_scratch9))
  (w4 w5 : S3x128.Idx → BitVec 32) (w6 : S128.Idx → BitVec 32)
  (h4 : ∀ y, (w4 y).toNat < 2250000) (h5 : ∀ y, (w5 y).toNat < 1500) (h6 : ∀ y, (w6 y).toNat < 2250000)

include h4 in
theorem in4 (g : ℕ) (hg : g < 3) (h : ∀ a, (![g, 0] : Fin 2 → ℕ) a + S1x128.size a ≤ S3x128.size a) (x : S128.Idx) :
    (View.read (Elt F) (rowOf (Memref.whole cc1_scratch4) g h).view w4 x).toNat < S2250000.size gathers_S2250000_S128.axis := by
  rw [row_read4 h hg]; exact h4 _

include h5 in
theorem in5 (g : ℕ) (hg : g < 3) (h : ∀ a, (![g, 0] : Fin 2 → ℕ) a + S1x128.size a ≤ S3x128.size a) (x : S128.Idx) :
    (View.read (Elt F) (rowOf (Memref.whole cc1_scratch5) g h).view w5 x).toNat < S1500.size gathers_S1500_S128.axis := by
  rw [row_read5 h hg]; exact h5 _

/-- A row of a gather of pairs through row `g` of scratch 4. -/
abbrev dH (g o : ℕ) (hg : g < 3) (h : ∀ a, (![g, 0] : Fin 2 → ℕ) a + S1x128.size a ≤ S3x128.size a)
    (h' : ∀ a, (![o] : Fin 1 → ℕ) a + S128.size a ≤ S384.size a) (q : PosShare TreeShare) : Fin 128 → sProp 𝕄 :=
  GatherBatch.rowDone (V d (cV L) (jV L)) hSrc (blkOf (Memref.whole cc1_scratch7) o h') gathers_S2250000_S128 (rowOf (Memref.whole cc1_scratch4) g h) rfl
    (by decide) q fullShare fH f7 w4 (in4 w4 h4 g hg h)

/-- A row of a gather of labels through row `g` of scratch 5. -/
abbrev dS (g o : ℕ) (hg : g < 3) (h : ∀ a, (![g, 0] : Fin 2 → ℕ) a + S1x128.size a ≤ S3x128.size a)
    (h' : ∀ a, (![o] : Fin 1 → ℕ) a + S128.size a ≤ S384.size a) (q : PosShare TreeShare) : Fin 128 → sProp 𝕄 :=
  GatherBatch.rowDone (V d (cV L) (jV L)) sSrc (blkOf (Memref.whole cc1_scratch8) o h') gathers_S1500_S128 (rowOf (Memref.whole cc1_scratch5) g h) rfl
    (by decide) q fullShare fS f8 w5 (in5 w5 h5 g hg h)

/-- A row of the gather of the second list's pairs. -/
abbrev dD (q : PosShare TreeShare) : Fin 128 → sProp 𝕄 :=
  GatherBatch.rowDone (V d (cV L) (jV L)) hSrc (Memref.whole cc1_scratch9) gathers_S2250000_S128 (Memref.whole cc1_scratch6) rfl
    (by decide) q fullShare fH f9 w6 h6

/-- The seven gathers' deliveries, in the order issued. -/
def deliv : Fin 7 → Fin 128 → sProp 𝕄
  | 0 => dH d L fH f7 w4 h4 0 0 (by decide) inb_S3x128_S1x128_0_0 inb_S384_S128_0 (qh 0)
  | 1 => dS d L fS f8 w5 h5 0 0 (by decide) inb_S3x128_S1x128_0_0 inb_S384_S128_0 (qs 0)
  | 2 => dH d L fH f7 w4 h4 1 128 (by decide) inb_S3x128_S1x128_1_0 inb_S384_S128_128 (qh 1)
  | 3 => dS d L fS f8 w5 h5 1 128 (by decide) inb_S3x128_S1x128_1_0 inb_S384_S128_128 (qs 1)
  | 4 => dH d L fH f7 w4 h4 2 256 (by decide) inb_S3x128_S1x128_2_0 inb_S384_S128_256 (qh 2)
  | 5 => dS d L fS f8 w5 h5 2 256 (by decide) inb_S3x128_S1x128_2_0 inb_S384_S128_256 (qs 2)
  | 6 => dD d L fH f9 w6 h6 (qh 3)

/-- What row `j` of gather 0 delivers fills that gather's slot `j` of the batch. -/
theorem deliv_0 (j : Fin 128) : dH d L fH f7 w4 h4 0 0 (by decide) inb_S3x128_S1x128_0_0 inb_S384_S128_0 (qh 0) j
    ⊢ GatherBatch.slots (deliv d L qh qs fH fS f7 f8 f9 w4 w5 w6 h4 h5 h6) (GatherBatch.slot 0 j) := by
  rw [GatherBatch.slots_slot]; exact Entails.of_eq rfl
/-- What row `j` of gather 1 delivers fills that gather's slot `j` of the batch. -/
theorem deliv_1 (j : Fin 128) : dS d L fS f8 w5 h5 0 0 (by decide) inb_S3x128_S1x128_0_0 inb_S384_S128_0 (qs 0) j
    ⊢ GatherBatch.slots (deliv d L qh qs fH fS f7 f8 f9 w4 w5 w6 h4 h5 h6) (GatherBatch.slot 1 j) := by
  rw [GatherBatch.slots_slot]; exact Entails.of_eq rfl
/-- What row `j` of gather 2 delivers fills that gather's slot `j` of the batch. -/
theorem deliv_2 (j : Fin 128) : dH d L fH f7 w4 h4 1 128 (by decide) inb_S3x128_S1x128_1_0 inb_S384_S128_128 (qh 1) j
    ⊢ GatherBatch.slots (deliv d L qh qs fH fS f7 f8 f9 w4 w5 w6 h4 h5 h6) (GatherBatch.slot 2 j) := by
  rw [GatherBatch.slots_slot]; exact Entails.of_eq rfl
/-- What row `j` of gather 3 delivers fills that gather's slot `j` of the batch. -/
theorem deliv_3 (j : Fin 128) : dS d L fS f8 w5 h5 1 128 (by decide) inb_S3x128_S1x128_1_0 inb_S384_S128_128 (qs 1) j
    ⊢ GatherBatch.slots (deliv d L qh qs fH fS f7 f8 f9 w4 w5 w6 h4 h5 h6) (GatherBatch.slot 3 j) := by
  rw [GatherBatch.slots_slot]; exact Entails.of_eq rfl
/-- What row `j` of gather 4 delivers fills that gather's slot `j` of the batch. -/
theorem deliv_4 (j : Fin 128) : dH d L fH f7 w4 h4 2 256 (by decide) inb_S3x128_S1x128_2_0 inb_S384_S128_256 (qh 2) j
    ⊢ GatherBatch.slots (deliv d L qh qs fH fS f7 f8 f9 w4 w5 w6 h4 h5 h6) (GatherBatch.slot 4 j) := by
  rw [GatherBatch.slots_slot]; exact Entails.of_eq rfl
/-- What row `j` of gather 5 delivers fills that gather's slot `j` of the batch. -/
theorem deliv_5 (j : Fin 128) : dS d L fS f8 w5 h5 2 256 (by decide) inb_S3x128_S1x128_2_0 inb_S384_S128_256 (qs 2) j
    ⊢ GatherBatch.slots (deliv d L qh qs fH fS f7 f8 f9 w4 w5 w6 h4 h5 h6) (GatherBatch.slot 5 j) := by
  rw [GatherBatch.slots_slot]; exact Entails.of_eq rfl
/-- What row `j` of gather 6 delivers fills that gather's slot `j` of the batch. -/
theorem deliv_6 (j : Fin 128) : dD d L fH f9 w6 h6 (qh 3) j
    ⊢ GatherBatch.slots (deliv d L qh qs fH fS f7 f8 f9 w4 w5 w6 h4 h5 h6) (GatherBatch.slot 6 j) := by
  rw [GatherBatch.slots_slot]; exact Entails.of_eq rfl

/-- Every delivery may be kept by the batch. -/
instance deliv_storable (g : Fin 7) (j : Fin 128) : Storable (upEmb : UEmb _ 𝕄) (deliv d L qh qs fH fS f7 f8 f9 w4 w5 w6 h4 h5 h6 g j) := by
  match g with
  | 0 | 1 | 2 | 3 | 4 | 5 | 6 => exact GatherBatch.rowDone_storable ..

/-- A gather of pairs, delivered: its block, its share of the table, its row of words. -/
theorem dH_join (g o : ℕ) (hg : g < 3) (ho : o = 128 * g) (h : ∀ a, (![g, 0] : Fin 2 → ℕ) a + S1x128.size a ≤ S3x128.size a)
    (h' : ∀ a, (![o] : Fin 1 → ℕ) a + S128.size a ≤ S384.size a) (q : PosShare TreeShare) :
    (bigSep Finset.univ (dH d L fH f7 w4 h4 g o hg h h' q) : sProp 𝕄)
      ⊢ iprop(((blkOf (Memref.whole cc1_scratch7) o h').view.loc (V d (cV L) (jV L)) ↦[(blkOf (Memref.whole cc1_scratch7) o h').view.set]{fullShare} (fun i => pickH fH (w4 (at3x128 i))))
        ∗ (hV.view.loc (V d (cV L) (jV L)) ↦{q} fH)
        ∗ ((rowOf (Memref.whole cc1_scratch4) g h).view.loc (V d (cV L) (jV L)) ↦[(rowOf (Memref.whole cc1_scratch4) g h).view.set]{fullShare} w4)) := by
  refine (GatherBatch.rowDone_join (V d (cV L) (jV L)) hSrc (blkOf (Memref.whole cc1_scratch7) o h') gathers_S2250000_S128 (rowOf (Memref.whole cc1_scratch4) g h) rfl
    (by decide) q fullShare fH f7 w4 (in4 w4 h4 g hg h)).trans (BIClass.sep_mono (Entails.of_eq (pointsTo_congr fun i hi => ?_))
      (BIClass.sep_mono (Entails.of_eq (congrArg (fun s => (hSrc.view.loc (V d (cV L) (jV L)) ↦[s]{q} fH : sProp 𝕄)) hSrc_set)) .rfl))
  obtain ⟨x, -, rfl⟩ := Finset.mem_map.mp hi
  rw [View.write_emb_of_mem _ _ (Finset.mem_univ x)]
  refine (payload_h _ rfl fH _ x).trans ?_
  rw [row_read4 h hg]
  exact congrArg (fun y => pickH fH (w4 y)) (at3x128_blk hg ho h' x).symm

/-- A gather of labels, delivered. -/
theorem dS_join (g o : ℕ) (hg : g < 3) (ho : o = 128 * g) (h : ∀ a, (![g, 0] : Fin 2 → ℕ) a + S1x128.size a ≤ S3x128.size a)
    (h' : ∀ a, (![o] : Fin 1 → ℕ) a + S128.size a ≤ S384.size a) (q : PosShare TreeShare) :
    (bigSep Finset.univ (dS d L fS f8 w5 h5 g o hg h h' q) : sProp 𝕄)
      ⊢ iprop(((blkOf (Memref.whole cc1_scratch8) o h').view.loc (V d (cV L) (jV L)) ↦[(blkOf (Memref.whole cc1_scratch8) o h').view.set]{fullShare} (fun i => pickS fS (w5 (at3x128 i))))
        ∗ (sV.view.loc (V d (cV L) (jV L)) ↦{q} fS)
        ∗ ((rowOf (Memref.whole cc1_scratch5) g h).view.loc (V d (cV L) (jV L)) ↦[(rowOf (Memref.whole cc1_scratch5) g h).view.set]{fullShare} w5)) := by
  refine (GatherBatch.rowDone_join (V d (cV L) (jV L)) sSrc (blkOf (Memref.whole cc1_scratch8) o h') gathers_S1500_S128 (rowOf (Memref.whole cc1_scratch5) g h) rfl
    (by decide) q fullShare fS f8 w5 (in5 w5 h5 g hg h)).trans (BIClass.sep_mono (Entails.of_eq (pointsTo_congr fun i hi => ?_))
      (BIClass.sep_mono (Entails.of_eq (congrArg (fun s => (sSrc.view.loc (V d (cV L) (jV L)) ↦[s]{q} fS : sProp 𝕄)) sSrc_set)) .rfl))
  obtain ⟨x, -, rfl⟩ := Finset.mem_map.mp hi
  rw [View.write_emb_of_mem _ _ (Finset.mem_univ x)]
  refine (payload_s _ rfl fS _ x).trans ?_
  rw [row_read5 h hg]
  exact congrArg (fun y => pickS fS (w5 y)) (at3x128_blk hg ho h' x).symm

/-- The gather of the second list's pairs, delivered. -/
theorem dD_join (q : PosShare TreeShare) :
    (bigSep Finset.univ (dD d L fH f9 w6 h6 q) : sProp 𝕄)
      ⊢ iprop(((Memref.whole cc1_scratch9).view.loc (V d (cV L) (jV L)) ↦{fullShare} (fun i => pickH fH (w6 i)))
        ∗ (hV.view.loc (V d (cV L) (jV L)) ↦{q} fH)
        ∗ ((Memref.whole cc1_scratch6).view.loc (V d (cV L) (jV L)) ↦{fullShare} w6)) := by
  refine (GatherBatch.rowDone_join (V d (cV L) (jV L)) hSrc (Memref.whole cc1_scratch9) gathers_S2250000_S128 (Memref.whole cc1_scratch6) rfl
    (by decide) q fullShare fH f9 w6 h6).trans (BIClass.sep_mono (Entails.of_eq ?_)
      (BIClass.sep_mono (Entails.of_eq (congrArg (fun s => (hSrc.view.loc (V d (cV L) (jV L)) ↦[s]{q} fH : sProp 𝕄)) hSrc_set))
        (Entails.of_eq (congrArg (fun s => ((Memref.whole cc1_scratch6).view.loc (V d (cV L) (jV L)) ↦[s]{fullShare} w6 : sProp 𝕄)) (View.set_whole cc1_scratch6)))))
  refine (congrArg (fun s => ((Memref.whole cc1_scratch9).view.loc (V d (cV L) (jV L)) ↦[s]{fullShare} _ : sProp 𝕄)) (View.set_whole cc1_scratch9)).trans
    (congrArg (fun f => ((Memref.whole cc1_scratch9).view.loc (V d (cV L) (jV L)) ↦{fullShare} f : sProp 𝕄)) ?_)
  refine (View.write_whole_univ cc1_scratch9 f9 _).trans (funext fun x => ?_)
  exact payload_h w6 rfl fH h6 x

/-- What the tile holds once the seven gathers are delivered. -/
def gathered : sProp 𝕄 :=
  iprop((bigSep Finset.univ fun k : Fin 4 => hV.view.loc (V d (cV L) (jV L)) ↦{qh k} fH)
    ∗ (bigSep Finset.univ fun k : Fin 3 => sV.view.loc (V d (cV L) (jV L)) ↦{qs k} fS)
    ∗ ((Memref.whole cc1_scratch4).view.loc (V d (cV L) (jV L)) ↦{fullShare} w4)
    ∗ ((Memref.whole cc1_scratch5).view.loc (V d (cV L) (jV L)) ↦{fullShare} w5)
    ∗ ((Memref.whole cc1_scratch6).view.loc (V d (cV L) (jV L)) ↦{fullShare} w6)
    ∗ ((Memref.whole cc1_scratch7).view.loc (V d (cV L) (jV L)) ↦{fullShare} (fun i => pickH fH (w4 (at3x128 i))))
    ∗ ((Memref.whole cc1_scratch8).view.loc (V d (cV L) (jV L)) ↦{fullShare} (fun i => pickS fS (w5 (at3x128 i))))
    ∗ ((Memref.whole cc1_scratch9).view.loc (V d (cV L) (jV L)) ↦{fullShare} (fun i => pickH fH (w6 i))))

/-- All the slots of the batch together are what the tile holds after the seven gathers. -/
theorem delivered :
    (bigSep Finset.univ (GatherBatch.slots (deliv d L qh qs fH fS f7 f8 f9 w4 w5 w6 h4 h5 h6)) : sProp 𝕄)
      ⊢ gathered d L qh qs fH fS w4 w5 w6 := by
  refine (GatherBatch.delivered_seven _).trans ?_
  unfold gathered
  rw [bigSep_four, bigSep_three, scratch4_rows, scratch5_rows, scratch7_blks, scratch8_blks]
  refine (BIClass.sep_mono (dH_join d L fH f7 w4 h4 0 0 (by decide) rfl inb_S3x128_S1x128_0_0 inb_S384_S128_0 (qh 0))
    (BIClass.sep_mono (dS_join d L fS f8 w5 h5 0 0 (by decide) rfl inb_S3x128_S1x128_0_0 inb_S384_S128_0 (qs 0))
    (BIClass.sep_mono (dH_join d L fH f7 w4 h4 1 128 (by decide) rfl inb_S3x128_S1x128_1_0 inb_S384_S128_128 (qh 1))
    (BIClass.sep_mono (dS_join d L fS f8 w5 h5 1 128 (by decide) rfl inb_S3x128_S1x128_1_0 inb_S384_S128_128 (qs 1))
    (BIClass.sep_mono (dH_join d L fH f7 w4 h4 2 256 (by decide) rfl inb_S3x128_S1x128_2_0 inb_S384_S128_256 (qh 2))
    (BIClass.sep_mono (dS_join d L fS f8 w5 h5 2 256 (by decide) rfl inb_S3x128_S1x128_2_0 inb_S384_S128_256 (qs 2))
      (dD_join d L fH f9 w6 h6 (qh 3)))))))).trans ?_
  iintro ⟨D0, D1, D2, D3, D4, D5, D6⟩
  icases D0 with ⟨A0, B0, C0⟩
  icases D1 with ⟨A1, B1, C1⟩
  icases D2 with ⟨A2, B2, C2⟩
  icases D3 with ⟨A3, B3, C3⟩
  icases D4 with ⟨A4, B4, C4⟩
  icases D5 with ⟨A5, B5, C5⟩
  icases D6 with ⟨A6, B6, C6⟩
  isplitl [B0 B2 B4 B6]
  · isplitl [B0]; · iexact B0
    isplitl [B2]; · iexact B2
    isplitl [B4]; · iexact B4
    iexact B6
  isplitl [B1 B3 B5]
  · isplitl [B1]; · iexact B1
    isplitl [B3]; · iexact B3
    iexact B5
  isplitl [C0 C2 C4]
  · isplitl [C0]; · iexact C0
    isplitl [C2]; · iexact C2
    iexact C4
  isplitl [C1 C3 C5]
  · isplitl [C1]; · iexact C1
    isplitl [C3]; · iexact C3
    iexact C5
  isplitl [C6]; · iexact C6
  isplitl [A0 A2 A4]
  · isplitl [A0]; · iexact A0
    isplitl [A2]; · iexact A2
    iexact A4
  isplitl [A1 A3 A5]
  · isplitl [A1]; · iexact A1
    isplitl [A3]; · iexact A3
    iexact A5
  iexact A6

end Deliver

end Cert.KernelIdeal.Sc
-- ==== Proof.Sums.lean ====
/-
  The sums of one tile: the second half of its task, from the last of the gathers' waits on.
-/
module

public import proofs.«01_k».proof.Proof.Gather

@[expose] public section

set_option maxRecDepth 16384

noncomputable section

namespace Cert.KernelIdeal.Sc

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-- The body of a tile's task from the last of the gathers' waits on. -/
noncomputable def tail (i : grid1.Coords) (arg2 : Memref sig .scVector .hbm S2250000 .f32) (harg2 : arg2.IsWhole) (arg3 : Memref sig .scVector .hbm S1500 .f32) (harg3 : arg3.IsWhole) (arg4 : Memref sig .scVector .hbm S12288 .i32) (harg4 : arg4.IsWhole) (arg5 : Memref sig .scVector .hbm S12288 .i32) (harg5 : arg5.IsWhole) (arg6 : Memref sig .scVector .hbm S4096 .i32) (harg6 : arg6.IsWhole) (arg7 : Memref sig .scVector .hbm S4096 .i32) (harg7 : arg7.IsWhole) (arg8 : Memref sig .scVector .hbm S32x3x16 .f32) (harg8 : arg8.IsWhole) (arg9 : Memref sig .scVector .vmem S384 .i32) (harg9 : arg9.IsWhole) (arg10 : Memref sig .scVector .vmem S384 .i32) (harg10 : arg10.IsWhole) (arg11 : Memref sig .scVector .vmem S128 .i32) (harg11 : arg11.IsWhole) (arg12 : Memref sig .scVector .vmem S128 .i32) (harg12 : arg12.IsWhole) (arg13 : Memref sig .scVector .vmem S3x128 .i32) (harg13 : arg13.IsWhole) (arg14 : Memref sig .scVector .vmem S3x128 .i32) (harg14 : arg14.IsWhole) (arg15 : Memref sig .scVector .vmem S128 .i32) (harg15 : arg15.IsWhole) (arg16 : Memref sig .scVector .vmem S384 .f32) (harg16 : arg16.IsWhole) (arg17 : Memref sig .scVector .vmem S384 .f32) (harg17 : arg17.IsWhole) (arg18 : Memref sig .scVector .vmem S128 .f32) (harg18 : arg18.IsWhole) (arg19 : Memref sig .scVector .vmem S3x16 .f32) (harg19 : arg19.IsWhole) (arg20 : DmaSems sig S_) (v950_r0 : DmaSems sig S_) (v950_r1 : DmaSems sig S_) (v950_r2 : DmaSems sig S_) (v950_r3 : DmaSems sig S_) (v950_r4 : DmaSems sig S_) (v2 v3 : BitVec 32) :
    Prog (TpuEff nD τ sig (Elt F) Λ₀ (.scVector ((i 0).castLE hcore1) ((i 1).castLE hsub1))) PUnit := do
  let ⟨v496, v497, v522, v527, v532⟩ : Σ' (v496 : FVec F S16 .f32) (v497 : IVec S16 32) (v522 : FVec F S16 .f32) (v527 : FVec F S16 .f32), IVec S16 1 ← k1_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2
  let ⟨v567, v572, v575, c10000_i32_249⟩ : Σ' (v567 : FVec F S16 .f32) (v572 : FVec F S16 .f32) (v575 : IVec S16 32), BitVec 32 ← k1_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2 v497 v522 v527 v532
  let ⟨v612, v617, v618⟩ : Σ' (v612 : FVec F S16 .f32) (v617 : FVec F S16 .f32), BitVec 32 ← k1_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2 v497 v567 v572 v575 c10000_i32_249
  let ⟨v647, v657, v661⟩ : Σ' (v647 : FVec F S16 .f32) (v657 : FVec F S16 .f32), FVec F S16 .f32 ← k1_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2 v497 v612 v617 v618
  let ⟨v692, v697, v702, v704⟩ : Σ' (v692 : FVec F S16 .f32) (v697 : IVec S16 1) (v702 : FVec F S16 .f32), FVec F S16 .f32 ← k1_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2 v497 v647 v657 v661
  let ⟨v737, v742, v747⟩ : Σ' (v737 : FVec F S16 .f32) (v742 : IVec S16 1), FVec F S16 .f32 ← k1_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2 v497 v692 v697 v702 v704
  let ⟨v777, v782, v787, v789, cst_323⟩ : Σ' (v777 : FVec F S16 .f32) (v782 : FVec F S16 .f32) (v787 : IVec S16 1) (v789 : FVec F S16 .f32), F .f32 ← k1_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2 v497 v737 v742 v747
  let ⟨v822, v827, v832⟩ : Σ' (v822 : FVec F S16 .f32) (v827 : FVec F S16 .f32), IVec S16 1 ← k1_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2 v497 v777 v782 v787 v789 cst_323
  let ⟨v852, v857, v867, v872, v874, v875⟩ : Σ' (v852 : FVec F S16 .f32) (v857 : FVec F S16 .f32) (v867 : FVec F S16 .f32) (v872 : IVec S16 1) (v874 : FVec F S16 .f32), FVec F S16 .f32 ← k1_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v2 v3 v496 v497 v822 v827 v832
  let ⟨v917, v918⟩ : Σ' (v917 : FVec F S16 .f32), BitVec 32 ← k1_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v3 v497 v867 v872 v874 v875
  k1_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v950_r0 v950_r1 v950_r2 v950_r3 v950_r4 v3 v497 v852 v857 v917 v918
  let v957_r4 : Memref sig .scVector .hbm S1x3x16 .f32 := arg8.slice (Rect.unit (s := S32x3x16) (k1_off3 i) S1x3x16.size (k1_off3_inb i)) (fun _ => rfl)
  let v958_r4 : Memref sig .scVector .hbm S3x16 .f32 := v957_r4.squeeze S3x16 squeezes_S1x3x16_S3x16
  Prog.lift (.waitDma2 v950_r4.sem arg19 v958_r4 harg19.wordExact ((View.wordExact_bits rfl).reshape _ _))
  pure ⟨⟩

/-- What a tile adds up: row 0 the columns' sums at the left ends, row 1 the pairs' sums, row 2 the sums of the
    pairs of the second list. -/
def tileOut (v2 v3 : BitVec 32) (g7 g8 : S384.Idx → F .f32) (g9 : S128.Idx → F .f32) (r : ℕ) : S16.Idx → F .f32 :=
  match r with
  | 0 => chunkSum v2 10000#32 (chunkOf (n := 384) (by decide) g8) 24
  | 1 => chunkSum v2 10000#32 (chunkOf (n := 384) (by decide) g7) 24
  | _ => chunkSum v3 4000#32 (chunkOf (n := 128) (by decide) g9) 8

/-- The sum of the chunks depends on the chunks it adds alone. -/
theorem chunkSum_congr (base bound : BitVec 32) {v v' : ℕ → S16.Idx → F .f32} (n : ℕ) (h : ∀ k, k < n → v k = v' k) :
    chunkSum base bound v n = chunkSum base bound v' n := by
  induction n with
  | zero => rfl
  | succ n ih =>
    show addf (chunkSum base bound v n) (chunkStep base bound n (v n)) = addf (chunkSum base bound v' n) (chunkStep base bound n (v' n))
    rw [ih fun k hk => h k (by omega), h n (by omega)]

/-- Chunk `k` of a buffer of `n` words, as the load of its sixteen words through `rd` reads it. -/
def chunkLoad {n : ℕ} (rd : (R : Rect (⟨1, ![n]⟩ : Shape)) → R.shape.Idx → F .f32) (k : ℕ) : S16.Idx → F .f32 :=
  if h : 16 * k + 16 ≤ n then
    shapeCast S16 (rd (Rect.unit (s := (⟨1, ![n]⟩ : Shape)) ![16 * k] S16.size (fun a => match a with | ⟨0, _⟩ => h))) shapeCasts_S16_S16
  else broadcast S16 (Scalar.ofBits .f32 0x00000000#32)

/-- The chunks loaded one by one add up to the sum of the buffer's chunks. -/
theorem chunkSum_load {n : ℕ} (hn : 0 < n) (base bound : BitVec 32) (g : (⟨1, ![n]⟩ : Shape).Idx → F .f32)
    (rd : (R : Rect (⟨1, ![n]⟩ : Shape)) → R.shape.Idx → F .f32) (hrd : ∀ R i, rd R i = g (R.emb i)) (N : ℕ) (hN : 16 * N ≤ n) :
    chunkSum base bound (chunkLoad rd) N = chunkSum base bound (chunkOf hn g) N := by
  refine chunkSum_congr base bound N fun k hk => ?_
  have h : 16 * k + 16 ≤ n := by omega
  rw [chunkLoad, dif_pos h]
  erw [shapeCast_self]
  refine funext fun i => (hrd _ i).trans (congrArg g (funext fun a => ?_))
  have hi : (i 0).val < 16 := (i 0).isLt
  match a with
  | ⟨0, _⟩ => exact Fin.ext (by show 16 * k + 1 * (i 0).val = (16 * k + (i 0).val) % n; rw [Nat.mod_eq_of_lt (by omega)]; omega)

/-- A row of sixteen stored as a 1 × 16 block, at the place its block has in the 3 × 16 rows. -/
theorem rowCast (r : ℕ) (v : S16.Idx → F .f32) (T : ℕ → S16.Idx → F .f32) (h : ∀ a, (![r, 0] : Fin 2 → ℕ) a + S1x16.size a ≤ S3x16.size a) (x : S1x16.Idx)
    (hT : T r = v) :
    shapeCast S1x16 v shapeCasts_S16_S1x16 x
      = (fun y : S3x16.Idx => T (y 0).val (ix1 (y 1))) ((Rect.unit (s := S3x16) ![r, 0] S1x16.size h).emb x) := by
  have h0 : (x 0).val = 0 := by have h : (x 0).val < 1 := (x 0).isLt; omega
  have e0 : r + 1 * (x 0).val = r := by omega
  show _ = T (r + 1 * (x 0).val) (ix1 (((Rect.unit (s := S3x16) ![r, 0] S1x16.size h).emb x) 1))
  rw [e0, hT]
  refine (shapeCast_addUnit_apply ![16] v _ x).trans (congrArg v (funext fun a => ?_))
  match a with
  | ⟨0, _⟩ => exact Fin.ext (by show (x 1).val = 0 + 1 * (x 1).val; omega)

set_option maxHeartbeats 4000000 in
theorem sums (d : Dev nD) (L : grid1.Coords) (v2 v3 : BitVec 32) (fo : Buf (Elt F) (oLoc d))
    (f10 : Buf (Elt F) ((V d (cV L) (jV L)).loc cc1_scratch10))
    (g7 : S384.Idx → F .f32) (g8 : S384.Idx → F .f32) (g9 : S128.Idx → F .f32) (R : sProp 𝕄) (D : Fin (7 * 128) → sProp 𝕄)
    (hR : bigSep Finset.univ D ⊢ iprop(R ∗ ((Memref.whole cc1_scratch7).view.loc (V d (cV L) (jV L)) ↦{fullShare} g7)
        ∗ ((Memref.whole cc1_scratch8).view.loc (V d (cV L) (jV L)) ↦{fullShare} g8)
        ∗ ((Memref.whole cc1_scratch9).view.loc (V d (cV L) (jV L)) ↦{fullShare} g9)))
    (O : CellTallies nD τ sig (HIx 1)) (W : Waits sig (HIx 1)) :
    iprop(Transfers.MayWaits (V d (cV L) (jV L)) (default : HIx 1) O
        ∗ GatherBatch.Held (Transfers.Batch (countersEmb : UEmb Counters 𝕄) (V d (cV L) (jV L)) (.dma cc1_scratch11.sem) (default : HIx 1) 32 D (7 * 128) 24576)
        ∗ ((oRowK L).view.loc (V d (cV L) (jV L)) ↦[(oRowK L).view.set]{fullShare} fo)
        ∗ ((Memref.whole cc1_scratch10).view.loc (V d (cV L) (jV L)) ↦{fullShare} f10)
        ∗ semVal (V d (cV L) (jV L), .dma cc1_scoped4.sem) 0
        ∗ owes (V d (cV L) (jV L)) O W)
      ⊢ wp frame (wpE (defs₀ (F := F)) 𝒱₀ (V d (cV L) (jV L)) none) Set.univ
          (tail L hV (Memref.isWhole_whole _) sV (Memref.isWhole_whole _) ilV (Memref.isWhole_whole _)
            irV (Memref.isWhole_whole _) dlV (Memref.isWhole_whole _) drV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) (Memref.whole cc1_scratch9) (Memref.isWhole_whole _)
            (Memref.whole cc1_scratch10) (Memref.isWhole_whole _) cc1_scratch11 cc1_scoped0 cc1_scoped1 cc1_scoped2 cc1_scoped3 cc1_scoped4 v2 v3)
          fun _ => (iprop(R ∗ (∃ f7 : Buf (Elt F) ((V d (cV L) (jV L)).loc cc1_scratch7), (Memref.whole cc1_scratch7).view.loc (V d (cV L) (jV L)) ↦{fullShare} f7)
            ∗ (∃ f8 : Buf (Elt F) ((V d (cV L) (jV L)).loc cc1_scratch8), (Memref.whole cc1_scratch8).view.loc (V d (cV L) (jV L)) ↦{fullShare} f8)
            ∗ (∃ f9 : Buf (Elt F) ((V d (cV L) (jV L)).loc cc1_scratch9), (Memref.whole cc1_scratch9).view.loc (V d (cV L) (jV L)) ↦{fullShare} f9)
            ∗ (∃ f10 : Buf (Elt F) ((V d (cV L) (jV L)).loc cc1_scratch10), (Memref.whole cc1_scratch10).view.loc (V d (cV L) (jV L)) ↦{fullShare} f10)
            ∗ ((oRowK L).view.loc (V d (cV L) (jV L)) ↦[(oRowK L).view.set]{fullShare} (fun x : S32x3x16.Idx => tileOut v2 v3 g7 g8 g9 (x 1).val (ix1 (x 2))))
            ∗ semVal (V d (cV L) (jV L), .dma cc1_scratch11.sem) 0
            ∗ semVal (V d (cV L) (jV L), .dma cc1_scoped4.sem) 0
            ∗ ∃ W', ⌜∀ p ∈ W', p ∈ W ∨ p.2 = none⌝ ∗ owes (V d (cV L) (jV L)) O W') : sProp 𝕄) := by
  unfold tail
  iintro ⟨#Hmw, Hbt, Ho, H10, HE, HO⟩
  sl_exec
  ihave Hbt := (Entails.of_eq (GatherBatch.held_eq _)) $$ Hbt
  iapply (GatherBatch.wp_waitLast (countersEmb : UEmb Counters 𝕄) 𝒱₀ (V d (cV L) (jV L)) none (default : HIx 1) 32 4096 24576 rfl (by decide) (n := 7 * 128) (by decide)) $$ [Hbt HO]
  · isplitl [Hbt]; · iexact Hbt
    isplitl [HO]; · iexact HO
    iexact Hmw
  iintro ⟨Hbt, HG, HO⟩
  ihave Hbt := hR $$ Hbt
  icases Hbt with ⟨HR, H7, H8, H9⟩
  sl_exec
  have e7 : sums.sl.r_19 v2 g7 = chunkSum v2 10000#32 (chunkOf (n := 384) (by decide) g7) 24 := by
    refine Eq.trans ?_ (chunkSum_load (n := 384) (by decide) v2 10000#32 g7 (fun R => View.readAt (Elt F) (Memref.whole cc1_scratch7).view R.toLoadRect g7) (fun _ _ => rfl) 24 (by decide))
    rfl
  have e8 : sums.sl.r_20 v2 g8 = chunkSum v2 10000#32 (chunkOf (n := 384) (by decide) g8) 24 := by
    refine Eq.trans ?_ (chunkSum_load (n := 384) (by decide) v2 10000#32 g8 (fun R => View.readAt (Elt F) (Memref.whole cc1_scratch8).view R.toLoadRect g8) (fun _ _ => rfl) 24 (by decide))
    rfl
  have e9 : k1_pay144 v3 sums.sl.v497 (sums.sl.r_23 v3 g9) (sums.sl.v918 v3)
        (View.readAt (Elt F) (Memref.whole cc1_scratch9).view (Rect.unit (s := S128) ![96] S16.size inb_S128_S16_96).toLoadRect g9)
        (View.readAt (Elt F) (Memref.whole cc1_scratch9).view (Rect.unit (s := S128) ![112] S16.size inb_S128_S16_112).toLoadRect g9)
      = shapeCast S1x16 (chunkSum v3 4000#32 (chunkOf (n := 128) (by decide) g9) 8) shapeCasts_S16_S1x16 := by
    refine Eq.trans ?_ (congrArg (fun z => shapeCast S1x16 z shapeCasts_S16_S1x16) (chunkSum_load (n := 128) (by decide) v3 4000#32 g9 (fun R => View.readAt (Elt F) (Memref.whole cc1_scratch9).view R.toLoadRect g9) (fun _ _ => rfl) 8 (by decide)))
    rfl
  have hw : (Memref.whole cc1_scratch10).view.writes (Elt F) f10 (sums.sl.H10_3 v2 v3 g7 g8 g9)
      = fun y : S3x16.Idx => tileOut v2 v3 g7 g8 g9 (y 0).val (ix1 (y 1)) := by
    refine writes_eq cc1_scratch10 f10 _ _ ?_ (View.cover_of_tiled _ ![1, 16] rfl)
    unfold sums.sl.H10_3
    rw [e7, e8, e9]
    refine List.forall_mem_cons.mpr ⟨fun x => ?_, List.forall_mem_cons.mpr ⟨fun x => ?_, List.forall_mem_cons.mpr ⟨fun x => ?_, List.forall_mem_nil _⟩⟩⟩
    · exact rowCast 2 _ (tileOut v2 v3 g7 g8 g9) inb_S3x16_S1x16_2_0 x rfl
    · exact rowCast 1 _ (tileOut v2 v3 g7 g8 g9) inb_S3x16_S1x16_1_0 x rfl
    · exact rowCast 0 _ (tileOut v2 v3 g7 g8 g9) inb_S3x16_S1x16_0_0 x rfl
  have ho : ∀ x ∈ (oRowK L).view.set, (oRowK L).view.writes (Elt F) fo [⟨Rect.whole S3x16, sums.sl.dma62 d L v2 v3 f10 g7 g8 g9⟩] x
      = tileOut v2 v3 g7 g8 g9 (x 1).val (ix1 (x 2)) := by
    intro x hx
    obtain ⟨y, _, rfl⟩ := Finset.mem_map.mp hx
    refine (View.read_writes_apply_of_pieces (oRowK L).view fo (sums.sl.dma62 d L v2 v3 f10 g7 g8 g9) _ ?_ y ⟨_, List.mem_singleton.mpr rfl, ?_⟩).trans ?_
    · exact List.forall_mem_cons.mpr ⟨fun x => congrArg _ (Rect.emb_whole_apply S3x16 x).symm, List.forall_mem_nil _⟩
    · rw [Rect.set_whole]; exact Finset.mem_univ y
    · unfold sums.sl.dma62
      rw [hw]
      have e : (oRowK L).view.emb y = (oV.slice (Rect.unit (s := S32x3x16) (k1_off3 L) S1x3x16.size (k1_off3_inb L)) (fun _ => rfl)).view.emb (Fin.cons ⟨0, Nat.one_pos⟩ y) :=
        shapeCast_dropUnit_apply ![3, 16] (fun j => (oV.slice (Rect.unit (s := S32x3x16) (k1_off3 L) S1x3x16.size (k1_off3_inb L)) (fun _ => rfl)).view.emb j) _ y
      have eo := k1_off3_eq L
      have e1 : ((oRowK L).view.emb y 1).val = (y 0).val := by
        rw [e]; show k1_off3 L 1 + 1 * (y 0).val = _; rw [eo]; show 0 + 1 * (y 0).val = _; omega
      have e2 : ((oRowK L).view.emb y 2).val = (y 1).val := by
        rw [e]; show k1_off3 L 2 + 1 * (y 1).val = _; rw [eo]; show 0 + 1 * (y 1).val = _; omega
      show tileOut v2 v3 g7 g8 g9 (y 0).val (ix1 (y 1)) = tileOut v2 v3 g7 g8 g9 ((oRowK L).view.emb y 1).val (ix1 ((oRowK L).view.emb y 2))
      rw [e1]
      exact congrArg (fun z => tileOut v2 v3 g7 g8 g9 (y 0).val (ix1 z)) (Fin.ext e2.symm)
  rw [wp_ret]
  imodintro
  ihave Ho := (Entails.of_eq (pointsTo_congr ho)) $$ Ho
  isplitl [HR]; · iexact HR
  isplitl [H7]; · iexists g7; iexact H7
  isplitl [H8]; · iexists g8; iexact H8
  isplitl [H9]; · iexists g9; iexact H9
  isplitl [H10]; · iexists _; iexact H10
  isplitl [Ho]; · iexact Ho
  isplitl [HG]; · iexact HG
  isplitl [HE]; · iexact HE
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-! ## The result of a tile in terms of the arrays -/

/-- What tile number `w` adds up, from the arrays it reads. -/
def tileVals (w : ℕ) (hw : w < 32) (fH : S2250000.Idx → F .f32) (fS : S1500.Idx → F .f32) (fil fir : S12288.Idx → BitVec 32)
    (fdl fdr : S4096.Idx → BitVec 32) (r : ℕ) : S16.Idx → F .f32 :=
  tileOut (BitVec.ofNat 32 (384 * w)) (BitVec.ofNat 32 (128 * w))
    (fun i => pickH fH (flatWords (tileWords w hw fil) (tileWords w hw fir) (at3x128 i)))
    (fun i => pickS fS (rowWords (tileWords w hw fil) (at3x128 i)))
    (fun i => pickH fH (flatWordsD (tileWordsD w hw fdl) (tileWordsD w hw fdr) i)) r

/-- The whole result of the tiles: entry `(w, r, j)` is tile `w`'s lane `j` of row `r`. -/
def outOf (fH : S2250000.Idx → F .f32) (fS : S1500.Idx → F .f32) (fil fir : S12288.Idx → BitVec 32)
    (fdl fdr : S4096.Idx → BitVec 32) : S32x3x16.Idx → F .f32 :=
  fun x => tileVals (x 0).val (x 0).isLt fH fS fil fir fdl fdr (x 1).val (ix1 (x 2))

/-- The first word of a tile's 384, as the program computes it. -/
theorem base_word (a b : ℕ) : (BitVec.ofNat 32 a * 2#32 + BitVec.ofNat 32 b) * 384#32 = BitVec.ofNat 32 (384 * (2 * a + b)) := by
  apply BitVec.eq_of_toNat_eq
  simp only [BitVec.toNat_mul, BitVec.toNat_add, BitVec.toNat_ofNat]
  omega

/-- The first word of a tile's 128, as the program computes it. -/
theorem base_wordD (a b : ℕ) : (BitVec.ofNat 32 a * 2#32 + BitVec.ofNat 32 b) * 128#32 = BitVec.ofNat 32 (128 * (2 * a + b)) := by
  apply BitVec.eq_of_toNat_eq
  simp only [BitVec.toNat_mul, BitVec.toNat_add, BitVec.toNat_ofNat]
  omega

/-- A tile's row of the result is the one with its number. -/
theorem out_row (L : grid1.Coords) (x : S32x3x16.Idx) (hx : x ∈ (oRowK L).view.set) : (x 0).val = wid L := by
  obtain ⟨y, _, rfl⟩ := Finset.mem_map.mp hx
  have e : (oRowK L).view.emb y = (oV.slice (Rect.unit (s := S32x3x16) (k1_off3 L) S1x3x16.size (k1_off3_inb L)) (fun _ => rfl)).view.emb (Fin.cons ⟨0, Nat.one_pos⟩ y) :=
    shapeCast_dropUnit_apply ![3, 16] (fun j => (oV.slice (Rect.unit (s := S32x3x16) (k1_off3 L) S1x3x16.size (k1_off3_inb L)) (fun _ => rfl)).view.emb j) _ y
  rw [e]
  show k1_off3 L 0 + 1 * 0 = wid L
  rw [k1_off3_eq L]
  rfl

/-- On its own block of the results, what a tile computes is the whole array's value. -/
theorem outOf_row (L : grid1.Coords) (fH : S2250000.Idx → F .f32) (fS : S1500.Idx → F .f32) (fil fir : S12288.Idx → BitVec 32)
    (fdl fdr : S4096.Idx → BitVec 32) (x : S32x3x16.Idx) (hx : x ∈ (oRowK L).view.set) :
    tileVals (wid L) (wid_lt L) fH fS fil fir fdl fdr (x 1).val (ix1 (x 2)) = outOf fH fS fil fir fdl fdr x := by
  have h : ∀ (w : ℕ) (hw : w < 32), w = wid L → tileVals w hw fH fS fil fir fdl fdr = tileVals (wid L) (wid_lt L) fH fS fil fir fdl fdr := by
    rintro w hw rfl; rfl
  exact (congrFun (congrFun (h _ (x 0).isLt (out_row L x hx)) _) _).symm

/-- The gathers' parts put together: the sources at the tile's share again, the position lists and the gathered values. -/
theorem gathered_joined (d : Dev nD) (L : grid1.Coords) (q : PosShare TreeShare) (fH : Buf (Elt F) (hLoc d)) (fS : Buf (Elt F) (sLoc d))
    (w4 w5 : S3x128.Idx → BitVec 32) (w6 : S128.Idx → BitVec 32) :
    gathered d L (pieceOf q 4 (by decide)) (pieceOf q 3 (by decide)) fH fS w4 w5 w6
      ⊢ (iprop(((hV.view.loc (V d (cV L) (jV L)) ↦{q} fH) ∗ (sV.view.loc (V d (cV L) (jV L)) ↦{q} fS)
          ∗ ((Memref.whole cc1_scratch4).view.loc (V d (cV L) (jV L)) ↦{fullShare} w4)
          ∗ ((Memref.whole cc1_scratch5).view.loc (V d (cV L) (jV L)) ↦{fullShare} w5)
          ∗ ((Memref.whole cc1_scratch6).view.loc (V d (cV L) (jV L)) ↦{fullShare} w6))
        ∗ ((Memref.whole cc1_scratch7).view.loc (V d (cV L) (jV L)) ↦{fullShare} (fun i => pickH fH (w4 (at3x128 i))))
        ∗ ((Memref.whole cc1_scratch8).view.loc (V d (cV L) (jV L)) ↦{fullShare} (fun i => pickS fS (w5 (at3x128 i))))
        ∗ ((Memref.whole cc1_scratch9).view.loc (V d (cV L) (jV L)) ↦{fullShare} (fun i => pickH fH (w6 i)))) : sProp 𝕄) := by
  unfold gathered
  rw [← pointsTo_piecesOf Finset.univ fH (by decide) q, ← pointsTo_piecesOf Finset.univ fS (by decide) q]
  iintro ⟨A, B, C, E, G, I, J, K⟩
  isplitl [A B C E G]
  · isplitl [A]; · iexact A
    isplitl [B]; · iexact B
    isplitl [C]; · iexact C
    isplitl [E]; · iexact E
    iexact G
  isplitl [I]; · iexact I
  isplitl [J]; · iexact J
  iexact K

/-- What a tile holds when its task is over. -/
def tileEnd (d : Dev nD) (L : grid1.Coords) (q : PosShare TreeShare)
    (fH : Buf (Elt F) (hLoc d)) (fS : Buf (Elt F) (sLoc d)) (fil : Buf (Elt F) (ilLoc d)) (fir : Buf (Elt F) (irLoc d))
    (fdl : Buf (Elt F) (dlLoc d)) (fdr : Buf (Elt F) (drLoc d)) (O : CellTallies nD τ sig (HIx 1)) (W : Waits sig (HIx 1)) : sProp 𝕄 :=
  iprop((hV.view.loc (V d (cV L) (jV L)) ↦{q} fH) ∗ (sV.view.loc (V d (cV L) (jV L)) ↦{q} fS)
    ∗ (ilV.view.loc (V d (cV L) (jV L)) ↦{q} fil) ∗ (irV.view.loc (V d (cV L) (jV L)) ↦{q} fir)
    ∗ (dlV.view.loc (V d (cV L) (jV L)) ↦{q} fdl) ∗ (drV.view.loc (V d (cV L) (jV L)) ↦{q} fdr)
    ∗ ((oRowK L).view.loc (V d (cV L) (jV L)) ↦[(oRowK L).view.set]{fullShare} (outOf fH fS fil fir fdl fdr))
    ∗ (∃ f0 : Buf (Elt F) ((V d (cV L) (jV L)).loc cc1_scratch0), (Memref.whole cc1_scratch0).view.loc (V d (cV L) (jV L)) ↦{fullShare} f0)
    ∗ (∃ f1 : Buf (Elt F) ((V d (cV L) (jV L)).loc cc1_scratch1), (Memref.whole cc1_scratch1).view.loc (V d (cV L) (jV L)) ↦{fullShare} f1)
    ∗ (∃ f2 : Buf (Elt F) ((V d (cV L) (jV L)).loc cc1_scratch2), (Memref.whole cc1_scratch2).view.loc (V d (cV L) (jV L)) ↦{fullShare} f2)
    ∗ (∃ f3 : Buf (Elt F) ((V d (cV L) (jV L)).loc cc1_scratch3), (Memref.whole cc1_scratch3).view.loc (V d (cV L) (jV L)) ↦{fullShare} f3)
    ∗ (∃ f4 : Buf (Elt F) ((V d (cV L) (jV L)).loc cc1_scratch4), (Memref.whole cc1_scratch4).view.loc (V d (cV L) (jV L)) ↦{fullShare} f4)
    ∗ (∃ f5 : Buf (Elt F) ((V d (cV L) (jV L)).loc cc1_scratch5), (Memref.whole cc1_scratch5).view.loc (V d (cV L) (jV L)) ↦{fullShare} f5)
    ∗ (∃ f6 : Buf (Elt F) ((V d (cV L) (jV L)).loc cc1_scratch6), (Memref.whole cc1_scratch6).view.loc (V d (cV L) (jV L)) ↦{fullShare} f6)
    ∗ (∃ f7 : Buf (Elt F) ((V d (cV L) (jV L)).loc cc1_scratch7), (Memref.whole cc1_scratch7).view.loc (V d (cV L) (jV L)) ↦{fullShare} f7)
    ∗ (∃ f8 : Buf (Elt F) ((V d (cV L) (jV L)).loc cc1_scratch8), (Memref.whole cc1_scratch8).view.loc (V d (cV L) (jV L)) ↦{fullShare} f8)
    ∗ (∃ f9 : Buf (Elt F) ((V d (cV L) (jV L)).loc cc1_scratch9), (Memref.whole cc1_scratch9).view.loc (V d (cV L) (jV L)) ↦{fullShare} f9)
    ∗ (∃ f10 : Buf (Elt F) ((V d (cV L) (jV L)).loc cc1_scratch10), (Memref.whole cc1_scratch10).view.loc (V d (cV L) (jV L)) ↦{fullShare} f10)
    ∗ semVal (V d (cV L) (jV L), .dma cc1_scratch11.sem) 0
    ∗ semVal (V d (cV L) (jV L), .dma cc1_scoped0.sem) 0 ∗ semVal (V d (cV L) (jV L), .dma cc1_scoped1.sem) 0
    ∗ semVal (V d (cV L) (jV L), .dma cc1_scoped2.sem) 0 ∗ semVal (V d (cV L) (jV L), .dma cc1_scoped3.sem) 0
    ∗ semVal (V d (cV L) (jV L), .dma cc1_scoped4.sem) 0
    ∗ ∃ W', ⌜∀ p ∈ W', p ∈ W ∨ p.2 = none⌝ ∗ owes (V d (cV L) (jV L)) O W')

end Cert.KernelIdeal.Sc
-- ==== Proof.Tile.lean ====
/-
  The task of one tile.
-/
module

public import proofs.«01_k».proof.Proof.Sums

@[expose] public section

set_option maxRecDepth 16384

noncomputable section

namespace Cert.KernelIdeal.Sc

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

set_option maxHeartbeats 4000000 in
theorem tile_body (d : Dev nD) (L : grid1.Coords) (q : PosShare TreeShare)
    (fH : Buf (Elt F) (hLoc d)) (fS : Buf (Elt F) (sLoc d)) (fil : Buf (Elt F) (ilLoc d)) (fir : Buf (Elt F) (irLoc d))
    (fdl : Buf (Elt F) (dlLoc d)) (fdr : Buf (Elt F) (drLoc d)) (fo : Buf (Elt F) (oLoc d))
    (f0 : Buf (Elt F) ((V d (cV L) (jV L)).loc cc1_scratch0)) (f1 : Buf (Elt F) ((V d (cV L) (jV L)).loc cc1_scratch1))
    (f2 : Buf (Elt F) ((V d (cV L) (jV L)).loc cc1_scratch2)) (f3 : Buf (Elt F) ((V d (cV L) (jV L)).loc cc1_scratch3))
    (f4 : Buf (Elt F) ((V d (cV L) (jV L)).loc cc1_scratch4)) (f5 : Buf (Elt F) ((V d (cV L) (jV L)).loc cc1_scratch5))
    (f6 : Buf (Elt F) ((V d (cV L) (jV L)).loc cc1_scratch6)) (f7 : Buf (Elt F) ((V d (cV L) (jV L)).loc cc1_scratch7))
    (f8 : Buf (Elt F) ((V d (cV L) (jV L)).loc cc1_scratch8)) (f9 : Buf (Elt F) ((V d (cV L) (jV L)).loc cc1_scratch9))
    (f10 : Buf (Elt F) ((V d (cV L) (jV L)).loc cc1_scratch10))
    (hil : ∀ x, (fil x).toNat < 1500) (hir : ∀ x, (fir x).toNat < 1500) (hdl : ∀ x, (fdl x).toNat < 1500) (hdr : ∀ x, (fdr x).toNat < 1500)
    (O : CellTallies nD τ sig (HIx 1)) (W : Waits sig (HIx 1)) (hO : ∀ g, O g none = 0) :
    iprop(levAts (K (F := F)).L (K (F := F)).lev
        ∗ (hV.view.loc (V d (cV L) (jV L)) ↦{q} fH) ∗ (sV.view.loc (V d (cV L) (jV L)) ↦{q} fS)
        ∗ (ilV.view.loc (V d (cV L) (jV L)) ↦{q} fil) ∗ (irV.view.loc (V d (cV L) (jV L)) ↦{q} fir)
        ∗ (dlV.view.loc (V d (cV L) (jV L)) ↦{q} fdl) ∗ (drV.view.loc (V d (cV L) (jV L)) ↦{q} fdr)
        ∗ ((oRowK L).view.loc (V d (cV L) (jV L)) ↦[(oRowK L).view.set]{fullShare} fo)
        ∗ ((Memref.whole cc1_scratch0).view.loc (V d (cV L) (jV L)) ↦{fullShare} f0)
        ∗ ((Memref.whole cc1_scratch1).view.loc (V d (cV L) (jV L)) ↦{fullShare} f1)
        ∗ ((Memref.whole cc1_scratch2).view.loc (V d (cV L) (jV L)) ↦{fullShare} f2)
        ∗ ((Memref.whole cc1_scratch3).view.loc (V d (cV L) (jV L)) ↦{fullShare} f3)
        ∗ ((Memref.whole cc1_scratch4).view.loc (V d (cV L) (jV L)) ↦{fullShare} f4)
        ∗ ((Memref.whole cc1_scratch5).view.loc (V d (cV L) (jV L)) ↦{fullShare} f5)
        ∗ ((Memref.whole cc1_scratch6).view.loc (V d (cV L) (jV L)) ↦{fullShare} f6)
        ∗ ((Memref.whole cc1_scratch7).view.loc (V d (cV L) (jV L)) ↦{fullShare} f7)
        ∗ ((Memref.whole cc1_scratch8).view.loc (V d (cV L) (jV L)) ↦{fullShare} f8)
        ∗ ((Memref.whole cc1_scratch9).view.loc (V d (cV L) (jV L)) ↦{fullShare} f9)
        ∗ ((Memref.whole cc1_scratch10).view.loc (V d (cV L) (jV L)) ↦{fullShare} f10)
        ∗ semVal (V d (cV L) (jV L), .dma cc1_scratch11.sem) 0
        ∗ semVal (V d (cV L) (jV L), .dma cc1_scoped0.sem) 0 ∗ semVal (V d (cV L) (jV L), .dma cc1_scoped1.sem) 0
        ∗ semVal (V d (cV L) (jV L), .dma cc1_scoped2.sem) 0 ∗ semVal (V d (cV L) (jV L), .dma cc1_scoped3.sem) 0
        ∗ semVal (V d (cV L) (jV L), .dma cc1_scoped4.sem) 0
        ∗ owes (V d (cV L) (jV L)) O W)
      ⊢ wp frame (wpE (defs₀ (F := F)) 𝒱₀ (V d (cV L) (jV L)) none) Set.univ
          (cc1__sc_pair_sums_body L hV (Memref.isWhole_whole _) sV (Memref.isWhole_whole _) ilV (Memref.isWhole_whole _)
            irV (Memref.isWhole_whole _) dlV (Memref.isWhole_whole _) drV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) (Memref.whole cc1_scratch9) (Memref.isWhole_whole _)
            (Memref.whole cc1_scratch10) (Memref.isWhole_whole _) cc1_scratch11 cc1_scoped0 cc1_scoped1 cc1_scoped2 cc1_scoped3 cc1_scoped4)
          fun _ => tileEnd d L q fH fS fil fir fdl fdr O W := by
  rw [cc1__sc_pair_sums_body_eq_skeleton]; unfold cc1__sc_pair_sums_body_skel
  iintro ⟨#Hlv, Hh, Hs, Hil, Hir, Hdl, Hdr, Ho, H0, H1, H2, H3, H4, H5, H6, H7, H8, H9, H10, HG, HA, HBB, HC, HD, HE, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  have hA : tile_body.sl.dma0 d L fil = tileWords (wid L) (wid_lt L) fil := il_words L fil
  have hB : tile_body.sl.dma0_1 d L fir = tileWords (wid L) (wid_lt L) fir := ir_words L fir
  have hC : tile_body.sl.dma0_2 d L fdl = tileWordsD (wid L) (wid_lt L) fdl := dl_words L fdl
  have hD : tile_body.sl.dma0_3 d L fdr = tileWordsD (wid L) (wid_lt L) fdr := dr_words L fdr
  rw [writes_eq cc1_scratch4 _ (flatWords (tile_body.sl.dma0 d L fil) (tile_body.sl.dma0_1 d L fir)) (tile_body.sl.H4_24 d L fil fir f0 f1)
    (by
      unfold tile_body.sl.H4_24
      repeat' refine List.forall_mem_cons.mpr ⟨?_, ?_⟩
      all_goals first
        | exact List.forall_mem_nil _
        | (intro x; refine flat_piece (f0 := f0) (w0 := tile_body.sl.dma0 d L fil) (f1 := f1) (w1 := tile_body.sl.dma0_1 d L fir) (h := by decide) ?_ x; rfl))
    (View.cover_of_tiled _ ![1, 16] rfl)]
  rw [writes_eq cc1_scratch5 f5 (rowWords (tile_body.sl.dma0 d L fil)) _
    (by
      repeat' refine List.forall_mem_cons.mpr ⟨?_, ?_⟩
      all_goals first
        | exact List.forall_mem_nil _
        | (intro x; refine row_piece (f0 := f0) (w0 := tile_body.sl.dma0 d L fil) (h := by decide) ?_ x; rfl))
    (View.cover_of_tiled _ ![1, 16] rfl)]
  rw [writes_eq cc1_scratch6 f6 (flatWordsD (tile_body.sl.dma0_2 d L fdl) (tile_body.sl.dma0_3 d L fdr)) _
    (by
      repeat' refine List.forall_mem_cons.mpr ⟨?_, ?_⟩
      all_goals first
        | exact List.forall_mem_nil _
        | (intro x; refine flatD_piece (f2 := f2) (w2 := tile_body.sl.dma0_2 d L fdl) (f3 := f3) (w3 := tile_body.sl.dma0_3 d L fdr) x))
    (View.cover_of_tiled _ ![16] rfl)]
  rw [hA, hB, hC, hD]
  have h4 : ∀ y, (flatWords (tileWords (wid L) (wid_lt L) fil) (tileWords (wid L) (wid_lt L) fir) y).toNat < 2250000 := fun y => flat_lt (hil _) (hir _)
  have h5 : ∀ y, (rowWords (tileWords (wid L) (wid_lt L) fil) y).toNat < 1500 := fun y => hil _
  have h6 : ∀ y, (flatWordsD (tileWordsD (wid L) (wid_lt L) fdl) (tileWordsD (wid L) (wid_lt L) fdr) y).toNat < 2250000 := fun y => flat_lt (hdl _) (hdr _)
  imod (GatherBatch.alloc_seven (countersEmb : UEmb Counters 𝕄) 32 (deliv d L (pieceOf q 4 (by decide)) (pieceOf q 3 (by decide))
    fH fS f7 f8 f9 _ _ _ h4 h5 h6)) $$ HG with ⟨%γ, %γ₀, %κ, #Hinv, Hc, I0, I1, I2, I3, I4, I5, I6⟩
  ihave Hh := (Entails.of_eq (h_shares d L q fH)) $$ Hh
  icases Hh with ⟨Hh0, Hh1, Hh2, Hh3⟩
  ihave Hs := (Entails.of_eq (s_shares d L q fS)) $$ Hs
  icases Hs with ⟨Hs0, Hs1, Hs2⟩
  ihave H4 := (Entails.of_eq (scratch4_rows d L _)) $$ H4
  icases H4 with ⟨H40, H41, H42⟩
  ihave H5 := (Entails.of_eq (scratch5_rows d L _)) $$ H5
  icases H5 with ⟨H50, H51, H52⟩
  ihave H7 := (Entails.of_eq (scratch7_blks d L _)) $$ H7
  icases H7 with ⟨H70, H71, H72⟩
  ihave H8 := (Entails.of_eq (scratch8_blks d L _)) $$ H8
  icases H8 with ⟨H80, H81, H82⟩
  iapply (GatherBatch.wp_gatherInto (countersEmb : UEmb Counters 𝕄) 𝒱₀ (V d (cV L) (jV L)) none (default : HIx 1) 32 4096 (fun _ => rfl) rfl
    (by decide) (in4 _ h4 0 (by decide) inb_S3x128_S1x128_0_0) (GatherBatch.slot 0)
    (deliv_0 d L (pieceOf q 4 (by decide)) (pieceOf q 3 (by decide)) fH fS f7 f8 f9 _ _ _ h4 h5 h6)) $$ [I0 Hh0 H70 H40]
  · isplitr; · iexact Hinv
    isplitl [I0]; · iexact I0
    isplitl [Hh0]; · iexact Hh0
    isplitl [H70]; · iexact H70
    iexact H40
  iintro C0
  iapply (GatherBatch.wp_gatherInto (countersEmb : UEmb Counters 𝕄) 𝒱₀ (V d (cV L) (jV L)) none (default : HIx 1) 32 4096 (fun _ => rfl) rfl
    (by decide) (in5 _ h5 0 (by decide) inb_S3x128_S1x128_0_0) (GatherBatch.slot 1)
    (deliv_1 d L (pieceOf q 4 (by decide)) (pieceOf q 3 (by decide)) fH fS f7 f8 f9 _ _ _ h4 h5 h6)) $$ [I1 Hs0 H80 H50]
  · isplitr; · iexact Hinv
    isplitl [I1]; · iexact I1
    isplitl [Hs0]; · iexact Hs0
    isplitl [H80]; · iexact H80
    iexact H50
  iintro C1
  iapply (GatherBatch.wp_gatherInto (countersEmb : UEmb Counters 𝕄) 𝒱₀ (V d (cV L) (jV L)) none (default : HIx 1) 32 4096 (fun _ => rfl) rfl
    (by decide) (in4 _ h4 1 (by decide) inb_S3x128_S1x128_1_0) (GatherBatch.slot 2)
    (deliv_2 d L (pieceOf q 4 (by decide)) (pieceOf q 3 (by decide)) fH fS f7 f8 f9 _ _ _ h4 h5 h6)) $$ [I2 Hh1 H71 H41]
  · isplitr; · iexact Hinv
    isplitl [I2]; · iexact I2
    isplitl [Hh1]; · iexact Hh1
    isplitl [H71]; · iexact H71
    iexact H41
  iintro C2
  iapply (GatherBatch.wp_gatherInto (countersEmb : UEmb Counters 𝕄) 𝒱₀ (V d (cV L) (jV L)) none (default : HIx 1) 32 4096 (fun _ => rfl) rfl
    (by decide) (in5 _ h5 1 (by decide) inb_S3x128_S1x128_1_0) (GatherBatch.slot 3)
    (deliv_3 d L (pieceOf q 4 (by decide)) (pieceOf q 3 (by decide)) fH fS f7 f8 f9 _ _ _ h4 h5 h6)) $$ [I3 Hs1 H81 H51]
  · isplitr; · iexact Hinv
    isplitl [I3]; · iexact I3
    isplitl [Hs1]; · iexact Hs1
    isplitl [H81]; · iexact H81
    iexact H51
  iintro C3
  iapply (GatherBatch.wp_gatherInto (countersEmb : UEmb Counters 𝕄) 𝒱₀ (V d (cV L) (jV L)) none (default : HIx 1) 32 4096 (fun _ => rfl) rfl
    (by decide) (in4 _ h4 2 (by decide) inb_S3x128_S1x128_2_0) (GatherBatch.slot 4)
    (deliv_4 d L (pieceOf q 4 (by decide)) (pieceOf q 3 (by decide)) fH fS f7 f8 f9 _ _ _ h4 h5 h6)) $$ [I4 Hh2 H72 H42]
  · isplitr; · iexact Hinv
    isplitl [I4]; · iexact I4
    isplitl [Hh2]; · iexact Hh2
    isplitl [H72]; · iexact H72
    iexact H42
  iintro C4
  sl_exec
  iapply (GatherBatch.wp_gatherInto (countersEmb : UEmb Counters 𝕄) 𝒱₀ (V d (cV L) (jV L)) none (default : HIx 1) 32 4096 (fun _ => rfl) rfl
    (by decide) (in5 _ h5 2 (by decide) inb_S3x128_S1x128_2_0) (GatherBatch.slot 5)
    (deliv_5 d L (pieceOf q 4 (by decide)) (pieceOf q 3 (by decide)) fH fS f7 f8 f9 _ _ _ h4 h5 h6)) $$ [I5 Hs2 H82 H52]
  · isplitr; · iexact Hinv
    isplitl [I5]; · iexact I5
    isplitl [Hs2]; · iexact Hs2
    isplitl [H82]; · iexact H82
    iexact H52
  iintro C5
  ihave H6 := (Entails.of_eq (congrArg (fun s => ((Memref.whole cc1_scratch6).view.loc (V d (cV L) (jV L)) ↦[s]{fullShare}
    (flatWordsD (tileWordsD (wid L) (wid_lt L) fdl) (tileWordsD (wid L) (wid_lt L) fdr)) : sProp 𝕄)) (View.set_whole cc1_scratch6).symm)) $$ H6
  ihave H9 := (Entails.of_eq (congrArg (fun s => ((Memref.whole cc1_scratch9).view.loc (V d (cV L) (jV L)) ↦[s]{fullShare} f9 : sProp 𝕄)) (View.set_whole cc1_scratch9).symm)) $$ H9
  iapply (GatherBatch.wp_gatherInto (countersEmb : UEmb Counters 𝕄) 𝒱₀ (V d (cV L) (jV L)) none (default : HIx 1) 32 4096 (fun _ => rfl) rfl
    (by decide) (h6) (GatherBatch.slot 6)
    (deliv_6 d L (pieceOf q 4 (by decide)) (pieceOf q 3 (by decide)) fH fS f7 f8 f9 _ _ _ h4 h5 h6)) $$ [I6 Hh3 H9 H6]
  · isplitr; · iexact Hinv
    isplitl [I6]; · iexact I6
    isplitl [Hh3]; · iexact Hh3
    isplitl [H9]; · iexact H9
    iexact H6
  iintro C6
  ihave Hbt := (GatherBatch.issued_seven (c := V d (cV L) (jV L)) (countersEmb : UEmb Counters 𝕄) (ι := (default : HIx 1)) (N := 32) (M := 4096) rfl _) $$ [Hc C0 C1 C2 C3 C4 C5 C6]
  · isplitr; · iexact Hinv
    isplitl [Hc]; · iexact Hc
    isplitl [C0]; · iexact C0
    isplitl [C1]; · iexact C1
    isplitl [C2]; · iexact C2
    isplitl [C3]; · iexact C3
    isplitl [C4]; · iexact C4
    isplitl [C5]; · iexact C5
    iexact C6
  iapply (GatherBatch.wp_waitSome (countersEmb : UEmb Counters 𝕄) 𝒱₀ (V d (cV L) (jV L)) none (default : HIx 1) (n := 7 * 128) (j := 7 * 128) 32 128 0 rfl (by decide)) $$ [Hbt HO]
  · isplitl [Hbt]; · iexact Hbt
    isplitl [HO]; · iexact HO
    iexact Hmw
  iintro ⟨Hbt, HO⟩
  iapply (GatherBatch.wp_waitSome (countersEmb : UEmb Counters 𝕄) 𝒱₀ (V d (cV L) (jV L)) none (default : HIx 1) (n := 7 * 128) (j := 7 * 128) 32 128 4096 rfl (by decide)) $$ [Hbt HO]
  · isplitl [Hbt]; · iexact Hbt
    isplitl [HO]; · iexact HO
    iexact Hmw
  iintro ⟨Hbt, HO⟩
  iapply (GatherBatch.wp_waitSome (countersEmb : UEmb Counters 𝕄) 𝒱₀ (V d (cV L) (jV L)) none (default : HIx 1) (n := 7 * 128) (j := 7 * 128) 32 128 8192 rfl (by decide)) $$ [Hbt HO]
  · isplitl [Hbt]; · iexact Hbt
    isplitl [HO]; · iexact HO
    iexact Hmw
  iintro ⟨Hbt, HO⟩
  iapply (GatherBatch.wp_waitSome (countersEmb : UEmb Counters 𝕄) 𝒱₀ (V d (cV L) (jV L)) none (default : HIx 1) (n := 7 * 128) (j := 7 * 128) 32 128 12288 rfl (by decide)) $$ [Hbt HO]
  · isplitl [Hbt]; · iexact Hbt
    isplitl [HO]; · iexact HO
    iexact Hmw
  iintro ⟨Hbt, HO⟩
  iapply (GatherBatch.wp_waitSome (countersEmb : UEmb Counters 𝕄) 𝒱₀ (V d (cV L) (jV L)) none (default : HIx 1) (n := 7 * 128) (j := 7 * 128) 32 128 16384 rfl (by decide)) $$ [Hbt HO]
  · isplitl [Hbt]; · iexact Hbt
    isplitl [HO]; · iexact HO
    iexact Hmw
  iintro ⟨Hbt, HO⟩
  iapply (GatherBatch.wp_waitSome (countersEmb : UEmb Counters 𝕄) 𝒱₀ (V d (cV L) (jV L)) none (default : HIx 1) (n := 7 * 128) (j := 7 * 128) 32 128 20480 rfl (by decide)) $$ [Hbt HO]
  · isplitl [Hbt]; · iexact Hbt
    isplitl [HO]; · iexact HO
    iexact Hmw
  iintro ⟨Hbt, HO⟩
  rw [wp_pure]
  imodintro
  have e2 : tile_body.sl.v2 L = BitVec.ofNat 32 (384 * wid L) := base_word (L 1).val (L 0).val
  have e3 : tile_body.sl.v3 L = BitVec.ofNat 32 (128 * wid L) := base_wordD (L 1).val (L 0).val
  ihave Hbt := (Entails.of_eq (GatherBatch.held_eq _).symm) $$ Hbt
  ihave Hw := (sums (F := F) d L (tile_body.sl.v2 L) (tile_body.sl.v3 L) fo f10 _ _ _ _ _
    ((delivered d L (pieceOf q 4 (by decide)) (pieceOf q 3 (by decide)) fH fS f7 f8 f9 _ _ _ h4 h5 h6).trans (gathered_joined d L q fH fS _ _ _)) O _) $$ [Hbt Ho H10 HE HO]
  · isplitr; · iexact Hmw
    isplitl [Hbt]; · iexact Hbt
    isplitl [Ho]; · iexact Ho
    isplitl [H10]; · iexact H10
    isplitl [HE]; · iexact HE
    iexact HO
  iapply (wp_wand_r Idealize.ShloMosaic.frame _)
  isplitl [Hw]
  · first
      | iexact Hw
      | (unfold tail; iexact Hw)
  iintro %_ ⟨⟨Hh, Hs, H4, H5, H6⟩, H7, H8, H9, H10, Ho, HG, HE, %W', %hW', HO⟩
  rw [e2, e3]
  ihave Ho := (Entails.of_eq (pointsTo_congr (outOf_row L fH fS fil fir fdl fdr))) $$ Ho
  unfold tileEnd
  isplitl [Hh]; · iexact Hh
  isplitl [Hs]; · iexact Hs
  isplitl [Hil]; · iexact Hil
  isplitl [Hir]; · iexact Hir
  isplitl [Hdl]; · iexact Hdl
  isplitl [Hdr]; · iexact Hdr
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  isplitl [H9]; · iexact H9
  isplitl [H10]; · iexact H10
  isplitl [HG]; · iexact HG
  isplitl [HA]; · iexact HA
  isplitl [HBB]; · iexact HBB
  isplitl [HC]; · iexact HC
  isplitl [HD]; · iexact HD
  isplitl [HE]; · iexact HE
  iexists W'; isplitr
  swap; · iexact HO
  ipureintro; intro p hp
  rcases hW' p hp with hp | hp
  · iterate 10 (rcases Finset.mem_insert.mp hp with hp | hp; · exact .inr (hp ▸ rfl))
    exact .inl hp
  · exact .inr hp

end Cert.KernelIdeal.Sc
-- ==== Proof.Pay.lean ====
/-
  What the SparseCore call moves between the TensorCore and the 32 tiles: every tile reads the six input arrays whole at
  a share of its own, and takes its row of the output; the call brings the inputs back whole and the output at the
  tiles' sums.
-/
module

public import proofs.«01_k».proof.Proof.Sums

@[expose] public section

set_option maxRecDepth 16384

noncomputable section

namespace Cert.KernelIdeal.Sc

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-- The contents of the SparseCore call's arrays when it starts. -/
structure Ins (F : FTy → Type) where
  h : (d : Dev nD) → Buf (Elt F) (hLoc d)
  s : (d : Dev nD) → Buf (Elt F) (sLoc d)
  il : (d : Dev nD) → Buf (Elt F) (ilLoc d)
  ir : (d : Dev nD) → Buf (Elt F) (irLoc d)
  dl : (d : Dev nD) → Buf (Elt F) (dlLoc d)
  dr : (d : Dev nD) → Buf (Elt F) (drLoc d)
  o : (d : Dev nD) → Buf (Elt F) (oLoc d)

/-- Every word of the four index lists names a row of the table. -/
structure Ins.Ok (X : Ins F) : Prop where
  il : ∀ d x, (X.il d x).toNat < 1500
  ir : ∀ d x, (X.ir d x).toNat < 1500
  dl : ∀ d x, (X.dl d x).toNat < 1500
  dr : ∀ d x, (X.dr d x).toNat < 1500

/-- The output array after the call. -/
abbrev Ins.out (X : Ins F) (d : Dev nD) : Buf (Elt F) (oLoc d) := outOf (X.h d) (X.s d) (X.il d) (X.ir d) (X.dl d) (X.dr d)

/-! ## Tiles and their numbers -/

/-- The number of a tile: twice its subcore plus its SparseCore. -/
def tileNo : Fin 2 × Fin 16 ≃ Fin 32 := (Equiv.prodComm _ _).trans finProdFinEquiv

/-- The number of a tile, as a natural number. -/
theorem tileNo_val (c : Fin 2) (i : Fin 16) : (tileNo (c, i)).val = 2 * i.val + c.val := by
  simp [tileNo, finProdFinEquiv]; omega

/-- The tiles' results divide into 32 equal blocks. -/
theorem odiv : 32 ∣ S32x3x16.size 0 := ⟨1, rfl⟩

/-- The cells of the output's row `w`. -/
abbrev rowSet (w : Fin 32) : Finset S32x3x16.Idx := (Rect.part (s := S32x3x16) (a₀ := 0) odiv w).set

/-- The blocks of two tiles share no place. -/
theorem tile_rows_disjoint : ∀ i ∈ (Finset.univ : Finset (Fin 32)), ∀ j ∈ (Finset.univ : Finset (Fin 32)), i ≠ j → Disjoint (rowSet i) (rowSet j) :=
  fun _ _ _ _ h => Rect.part_disjoint odiv h

/-- The tiles' blocks together are the whole array of results. -/
theorem tile_rows_cover : (Finset.univ : Finset (Fin 32)).biUnion rowSet = Finset.univ := Rect.biUnion_part odiv

/-- The rectangle a tile's slice of the output names is the row of the tile's number. -/
theorem oRow_eq (L : grid1.Coords) (w : Fin 32) (hw : w.val = wid L) :
    Rect.unit (s := S32x3x16) (k1_off3 L) S1x3x16.size (k1_off3_inb L) = Rect.part (s := S32x3x16) (a₀ := 0) odiv w := by
  have e : k1_off3 L = ![wid L, 0, 0] := by
    rw [k1_off3_eq]; rfl
  unfold Rect.part Rect.block
  congr 1 <;> funext a
  · rw [e]
    match a with
    | 0 => simp [Shape.partIx, Shape.partSize, hw]
    | 1 => simp [Shape.partIx, Shape.partSize]
    | 2 => simp [Shape.partIx, Shape.partSize]
  · match a with
    | 0 => simp [Shape.partSize]
    | 1 => simp [Shape.partSize]
    | 2 => simp [Shape.partSize]

/-- The output block the program slices is the block of the tile's number. -/
theorem set_oRowK (L : grid1.Coords) (w : Fin 32) (hw : w.val = wid L) : (oRowK L).view.set = rowSet w := by
  show (((oV).view.slice (Rect.unit (s := S32x3x16) (k1_off3 L) S1x3x16.size (k1_off3_inb L))).reshape S3x16 squeezes_S1x3x16_S3x16.numel_eq).set = _
  have h : ((oV).view.slice (Rect.part (s := S32x3x16) (a₀ := 0) odiv w)).set = rowSet w := by
    show ((View.whole (main_v15_scv : Ref sig .scVector)).slice _).set = _
    rw [View.set_slice]; exact Finset.map_refl
  rw [View.set_reshape, ← h]
  exact oRow_eq L w hw ▸ rfl

/-! ## What a tile takes and returns -/

/-- Tile `w`'s share of an array every tile reads. -/
abbrev tq (w : Fin 32) : PosShare TreeShare := pieceOf fullShare 32 (by decide) w

/-- The six input arrays, at share `q`. -/
abbrev insAt (X : Ins F) (d : Dev nD) (q : PosShare TreeShare) : sProp 𝕄 :=
  iprop((hLoc d ↦{q} X.h d) ∗ (sLoc d ↦{q} X.s d) ∗ (ilLoc d ↦{q} X.il d) ∗ (irLoc d ↦{q} X.ir d) ∗ (dlLoc d ↦{q} X.dl d) ∗ (drLoc d ↦{q} X.dr d))

/-- What tile `w` holds: the inputs at its share and its row of the output at the contents `f`. -/
abbrev tileAt (X : Ins F) (d : Dev nD) (f : Buf (Elt F) (oLoc d)) (w : Fin 32) : sProp 𝕄 :=
  iprop(insAt X d (tq w) ∗ oLoc d ↦[rowSet w]{fullShare} f)

/-- The 32 tiles' holdings are the seven arrays, whole. -/
theorem tiles_eq (X : Ins F) (d : Dev nD) (f : Buf (Elt F) (oLoc d)) :
    (bigSep Finset.univ fun w : Fin 32 => tileAt X d f w) = (iprop(insAt X d fullShare ∗ oLoc d ↦{fullShare} f) : sProp 𝕄) := by
  have ho : (oLoc d ↦{fullShare} f : sProp 𝕄) = bigSep Finset.univ fun w : Fin 32 => oLoc d ↦[rowSet w]{fullShare} f := by
    rw [← pointsTo_biUnion Finset.univ (ℓ := oLoc d) rowSet tile_rows_disjoint, tile_rows_cover]
  rw [bigSep_sep', bigSep_sep', bigSep_sep', bigSep_sep', bigSep_sep', bigSep_sep', ho]
  rw [← pointsTo_piecesOf Finset.univ (X.h d) (by decide) fullShare, ← pointsTo_piecesOf Finset.univ (X.s d) (by decide) fullShare,
    ← pointsTo_piecesOf Finset.univ (X.il d) (by decide) fullShare, ← pointsTo_piecesOf Finset.univ (X.ir d) (by decide) fullShare,
    ← pointsTo_piecesOf Finset.univ (X.dl d) (by decide) fullShare, ← pointsTo_piecesOf Finset.univ (X.dr d) (by decide) fullShare]

/-- The tile of SparseCore `c` and subcore `i` of the call. -/
abbrev no (c : Fin ((K (F := F)).nCore 0)) (i : Fin ((K (F := F)).nSub 0)) : Fin 32 :=
  tileNo (Fin.cast nCore_zero c, Fin.cast nSub_zero i)

/-- A SparseCore's sequencer takes and returns what its tiles do. -/
def P (X : Ins F) : (K (F := F)).Pay (nD := nD) (Val := Elt F) (Name := ℕ) (U := UU) where
  st := fun q d c => match q with | 0 => bigSep Finset.univ fun i => tileAt X d (X.o d) (no c i)
  dn := fun q d c => match q with | 0 => bigSep Finset.univ fun i => tileAt X d (X.out d) (no c i)
  go := fun q d c i => match q with | 0 => tileAt X d (X.o d) (no c i)
  td := fun q d c i => match q with | 0 => tileAt X d (X.out d) (no c i)
  x := fun _ _ => iprop(emp)

/-- What the handshakes hand over may be kept by them. -/
instance P_storable (X : Ins F) : (P (F := F) X).IsStorable where
  st q d c := match q with
    | 0 => (inferInstance : BI.Storable (upEmb : UEmb _ 𝕄) (bigSep Finset.univ fun i => tileAt X d (X.o d) (no c i)))
  dn q d c := match q with
    | 0 => (inferInstance : BI.Storable (upEmb : UEmb _ 𝕄) (bigSep Finset.univ fun i => tileAt X d (X.out d) (no c i)))
  go q d c i := match q with
    | 0 => (inferInstance : BI.Storable (upEmb : UEmb _ 𝕄) (tileAt X d (X.o d) (no c i)))
  td q d c i := match q with
    | 0 => (inferInstance : BI.Storable (upEmb : UEmb _ 𝕄) (tileAt X d (X.out d) (no c i)))

/-- What a sequencer takes is what its tiles take, and what the tiles return is what it returns. -/
theorem vecSplit (X : Ins F) : (K (F := F)).VecSplit' (P X) 0 := by
  intro d c
  show (bigSep Finset.univ fun i => tileAt X d (X.o d) (no c i)) ⊢ |={Set.univ}=> iprop(
    (bigSep Finset.univ fun i => tileAt X d (X.o d) (no c i))
      ∗ ((bigSep Finset.univ fun i => tileAt X d (X.out d) (no c i)) -∗ (bigSep Finset.univ fun i => tileAt X d (X.out d) (no c i))))
  iintro H; imodintro
  isplitl [H]; · iexact H
  iintro H; iexact H

/-- Over both SparseCores' tiles: the seven arrays, whole. -/
theorem cores_eq (X : Ins F) (d : Dev nD) (f : Buf (Elt F) (oLoc d)) :
    (bigSep Finset.univ fun c : Fin ((K (F := F)).nCore 0) => bigSep Finset.univ fun i : Fin ((K (F := F)).nSub 0) =>
      tileAt X d f (no (F := F) c i)) = (iprop(insAt X d fullShare ∗ oLoc d ↦{fullShare} f) : sProp 𝕄) := by
  rw [← tiles_eq, BI.bigSep_univ_equiv tileNo (fun w => tileAt X d f w), bigSep_univ_prod]
  rfl

/-- What the two sequencers take together: the six inputs and the results' array as at the start. -/
theorem st0_eq (X : Ins F) (d : Dev nD) :
    (bigSep Finset.univ fun c : Fin ((K (F := F)).nCore 0) => (P X).st 0 d c) = iprop(insAt X d fullShare ∗ oLoc d ↦{fullShare} X.o d) :=
  cores_eq X d (X.o d)
/-- What the two sequencers return together: the six inputs and the results' array filled. -/
theorem dn0_eq (X : Ins F) (d : Dev nD) :
    (bigSep Finset.univ fun c : Fin ((K (F := F)).nCore 0) => (P X).dn 0 d c) = iprop(insAt X d fullShare ∗ oLoc d ↦{fullShare} X.out d) :=
  cores_eq X d (X.out d)

end Cert.KernelIdeal.Sc
-- ==== Proof.Own.lean ====
/-
  A tile's own buffers and semaphores: the eleven scratch buffers and the six DMA counters the task uses, and the rest.
-/
module

public import proofs.«01_k».proof.Proof.Common
public import proofs.«01_k».proof.Proof.GatherBatch

@[expose] public section

set_option maxRecDepth 16384

noncomputable section

namespace Cert.KernelIdeal.Sc

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

local notation "𝕄" => MT nD τ sig (HIx 1) (Elt F) ℕ UU ℕ

/-- The task's scratch buffers. -/
def scr : Fin 11 → Ref sig .scVector :=
  ![cc1_scratch0, cc1_scratch1, cc1_scratch2, cc1_scratch3, cc1_scratch4, cc1_scratch5, cc1_scratch6, cc1_scratch7, cc1_scratch8,
    cc1_scratch9, cc1_scratch10]

/-- The scratch buffers are distinct. -/
theorem scr_injective : Function.Injective scr := by decide +kernel

/-- The task's DMA counters. -/
def cnt : Fin 6 → SemLoc sig :=
  ![.dma cc1_scratch11.sem, .dma cc1_scoped0.sem, .dma cc1_scoped1.sem, .dma cc1_scoped2.sem, .dma cc1_scoped3.sem, .dma cc1_scoped4.sem]

/-- The counters are distinct. -/
theorem cnt_injective : Function.Injective cnt := by decide +kernel
/-- The counters are scoped. -/
theorem cnt_scoped : ∀ k, (cnt k).isScoped .scVector = true := by decide +kernel

variable (d : Dev nD) (c : Fin τ.nSC) (i : Fin τ.nSub)

/-- The scratch buffers as buffers of the device. -/
def scrEmb : Fin 11 ↪ DevRef τ sig := ⟨fun k => (Proc.scVector c i).devRef (scr k), (Proc.devRef_injective _).comp scr_injective⟩

/-- The counters as counters of the machine. -/
def cntEmb : Fin 6 ↪ GSem nD τ sig := ⟨fun k => (V d c i, cnt k), fun a b h => cnt_injective (congrArg Prod.snd h)⟩

/-- A product over eleven is the eleven factors. -/
theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide]
  rw [BI.bigSep_insert (by decide), BI.bigSep_insert (by decide), BI.bigSep_insert (by decide), BI.bigSep_insert (by decide),
    BI.bigSep_insert (by decide), BI.bigSep_insert (by decide), BI.bigSep_insert (by decide), BI.bigSep_insert (by decide),
    BI.bigSep_insert (by decide), BI.bigSep_insert (by decide), BI.bigSep_singleton]
  rfl

/-- A product over six is the six factors. -/
theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide]
  rw [BI.bigSep_insert (by decide), BI.bigSep_insert (by decide), BI.bigSep_insert (by decide), BI.bigSep_insert (by decide),
    BI.bigSep_insert (by decide), BI.bigSep_singleton]
  rfl

/-- A tile's buffers besides the task's. -/
def otherBufs : sProp 𝕄 :=
  bigSep (ownRefs (τ := τ) (.scVector c i) \ Finset.univ.map (scrEmb c i)) fun b => iprop(∃ f, ((d, b) : Loc nD τ sig) ↦{fullShare} f)

/-- A tile's counters besides the task's. -/
def otherSems : sProp 𝕄 := bigSep (ownCells (V d c i) \ Finset.univ.map (cntEmb d c i)) fun g => semVal g 0

/-- A tile's own buffers are the task's eleven and the others. -/
theorem ownBufs_V :
    (ownBufs (V d c i) : sProp 𝕄)
      = iprop(((∃ f, (V d c i).loc cc1_scratch0 ↦{fullShare} f) ∗ (∃ f, (V d c i).loc cc1_scratch1 ↦{fullShare} f)
          ∗ (∃ f, (V d c i).loc cc1_scratch2 ↦{fullShare} f) ∗ (∃ f, (V d c i).loc cc1_scratch3 ↦{fullShare} f)
          ∗ (∃ f, (V d c i).loc cc1_scratch4 ↦{fullShare} f) ∗ (∃ f, (V d c i).loc cc1_scratch5 ↦{fullShare} f)
          ∗ (∃ f, (V d c i).loc cc1_scratch6 ↦{fullShare} f) ∗ (∃ f, (V d c i).loc cc1_scratch7 ↦{fullShare} f)
          ∗ (∃ f, (V d c i).loc cc1_scratch8 ↦{fullShare} f) ∗ (∃ f, (V d c i).loc cc1_scratch9 ↦{fullShare} f)
          ∗ (∃ f, (V d c i).loc cc1_scratch10 ↦{fullShare} f)) ∗ otherBufs d c i) := by
  unfold SparseCore.Cfg.ownBufs otherBufs
  have h : Finset.univ.map (scrEmb c i) ⊆ ownRefs (τ := τ) (.scVector c i) := by
    intro b hb
    obtain ⟨k, _, rfl⟩ := Finset.mem_map.mp hb
    refine SparseCore.Cfg.mem_ownRefs_of_owner (p := Proc.scVector c i) ?_
    clear hb
    match k with
    | 0 => rfl | 1 => rfl | 2 => rfl | 3 => rfl | 4 => rfl | 5 => rfl | 6 => rfl | 7 => rfl | 8 => rfl | 9 => rfl | 10 => rfl
  refine (BI.bigSep_sdiff_split h).trans ?_
  rw [BI.bigSep_map, bigSep_eleven]
  rfl

/-- A tile's own counters, all at zero, are the task's six and the others. -/
theorem ownSems0_V :
    (ownSems0 (V d c i) : sProp 𝕄)
      = iprop((semVal (V d c i, .dma cc1_scratch11.sem) 0 ∗ semVal (V d c i, .dma cc1_scoped0.sem) 0 ∗ semVal (V d c i, .dma cc1_scoped1.sem) 0
          ∗ semVal (V d c i, .dma cc1_scoped2.sem) 0 ∗ semVal (V d c i, .dma cc1_scoped3.sem) 0 ∗ semVal (V d c i, .dma cc1_scoped4.sem) 0)
          ∗ otherSems d c i) := by
  unfold SparseCore.Cfg.ownSems0 otherSems
  have h : Finset.univ.map (cntEmb d c i) ⊆ ownCells (V d c i) := by
    intro g hg
    obtain ⟨k, _, rfl⟩ := Finset.mem_map.mp hg
    exact mem_ownCells.mpr ⟨rfl, cnt_scoped k⟩
  refine (BI.bigSep_sdiff_split h).trans ?_
  rw [BI.bigSep_map, bigSep_six]
  rfl

end Cert.KernelIdeal.Sc
-- ==== Proof.TileObl.lean ====
/-
  The obligation of the launch for a tile: from its share of the call's arrays and its own buffers and counters, the task
  ends at its row of the output and gives the rest back.
-/
module

public import proofs.«01_k».proof.Proof.Tile
public import proofs.«01_k».proof.Proof.Pay
public import proofs.«01_k».proof.Proof.Own

@[expose] public section

set_option maxRecDepth 16384

noncomputable section

namespace Cert.KernelIdeal.Sc

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type} [FloatOps F]

local notation "𝕄" => MT nD τ sig (HIx 1) (Elt F) ℕ UU ℕ

/-- The grid point of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- What a vector subcore runs for the SparseCore call: the kernel's body at its grid point, on the seven arrays. -/
theorem defs₀_vector (c : Fin τ.nSC) (s : Fin τ.nSub) :
    defs₀ (F := F) (.scVector c s) 1 ()
      = SparseCore.onTile hcore1 hsub1 (fun c s => cc1__sc_pair_sums_body (coordsV c s)
          hV (Memref.isWhole_whole _) sV (Memref.isWhole_whole _) ilV (Memref.isWhole_whole _)
          irV (Memref.isWhole_whole _) dlV (Memref.isWhole_whole _) drV (Memref.isWhole_whole _) oV (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) (Memref.whole cc1_scratch7) (Memref.isWhole_whole _)
          (Memref.whole cc1_scratch8) (Memref.isWhole_whole _) (Memref.whole cc1_scratch9) (Memref.isWhole_whole _)
          (Memref.whole cc1_scratch10) (Memref.isWhole_whole _) cc1_scratch11 cc1_scoped0 cc1_scoped1 cc1_scoped2 cc1_scoped3 cc1_scoped4) ⟨⟩ c s := rfl

/-- The task at grid point `L`, from tile `w`'s holdings. -/
theorem tile_task (X : Ins F) (hX : X.Ok) (d : Dev nD) (L : grid1.Coords) (w : Fin 32) (hw : w.val = wid L)
    (O : CellTallies nD τ sig (HIx 1)) (W : Waits sig (HIx 1)) (hO : ∀ g, O g none = 0) :
    iprop(levAts (K (F := F)).L (K (F := F)).lev ∗ emp ∗ tileAt X d (X.o d) w
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_pair_sums_body L hV (Memref.isWhole_whole _) sV (Memref.isWhole_whole _) ilV (Memref.isWhole_whole _)
            irV (Memref.isWhole_whole _) dlV (Memref.isWhole_whole _) drV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            (Memref.whole cc1_scratch8) (Memref.isWhole_whole _) (Memref.whole cc1_scratch9) (Memref.isWhole_whole _)
            (Memref.whole cc1_scratch10) (Memref.isWhole_whole _) cc1_scratch11 cc1_scoped0 cc1_scoped1 cc1_scoped2 cc1_scoped3 cc1_scoped4)
          fun _ => iprop(tileAt X d (X.out d) w
            ∗ scopedBufs (V d (cV L) (jV L)) ∗ scopedSems0 (V d (cV L) (jV L))
            ∗ ∃ W', ⌜∀ p ∈ W', p ∈ W ∨ p.2 = none ∨ p.2 = some 0⌝ ∗ owes (V d (cV L) (jV L)) O W') := by
  rw [(K (F := F)).scopedBufs_V scFacts d (cV L) (jV L), SparseCore.Cfg.scopedSems0_V (Val := Elt F) d (cV L) (jV L), ownSems0_V, ownBufs_V]
  unfold tileAt
  rw [← set_oRowK L w hw]
  iintro ⟨#Hlv, -, ⟨⟨Hh, Hs, Hil, Hir, Hdl, Hdr⟩, Ho⟩,
    ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hbufs⟩,
    ⟨⟨HA, HB, HC, HD, HE, HF⟩, Hsems⟩, HO⟩
  ihave Hw := (tile_body d L (tq w) (X.h d) (X.s d) (X.il d) (X.ir d) (X.dl d) (X.dr d) (X.o d) f0 f1 f2 f3 f4 f5 f6 f7 f8 f9 f10
    (hX.il d) (hX.ir d) (hX.dl d) (hX.dr d) O W hO) $$ [Hh Hs Hil Hir Hdl Hdr Ho H0 H1 H2 H3 H4 H5 H6 H7 H8 H9 H10 HA HB HC HD HE HF HO]
  · isplitr; · iexact Hlv
    isplitl [Hh]; · iexact Hh
    isplitl [Hs]; · iexact Hs
    isplitl [Hil]; · iexact Hil
    isplitl [Hir]; · iexact Hir
    isplitl [Hdl]; · iexact Hdl
    isplitl [Hdr]; · iexact Hdr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HB]; · iexact HB
    isplitl [HC]; · iexact HC
    isplitl [HD]; · iexact HD
    isplitl [HE]; · iexact HE
    isplitl [HF]; · iexact HF
    iexact HO
  iapply (wp_wand_r Idealize.ShloMosaic.frame _)
  isplitl [Hw]; · iexact Hw
  iintro %u
  unfold tileEnd
  iintro ⟨Hh, Hs, Hil, Hir, Hdl, Hdr, Ho, H0, H1, H2, H3, H4, H5, H6, H7, H8, H9, H10, HA, HB, HC, HD, HE, HF, %W', %hW', HO⟩
  isplitl [Hh Hs Hil Hir Hdl Hdr Ho]
  · isplitr [Ho]
    · isplitl [Hh]; · iexact Hh
      isplitl [Hs]; · iexact Hs
      isplitl [Hil]; · iexact Hil
      isplitl [Hir]; · iexact Hir
      isplitl [Hdl]; · iexact Hdl
      iexact Hdr
    iexact Ho
  isplitl [H0 H1 H2 H3 H4 H5 H6 H7 H8 H9 H10 Hbufs]
  · isplitr [Hbufs]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iexact Hbufs
  isplitl [HA HB HC HD HE HF Hsems]
  · isplitr [Hsems]
    · isplitl [HA]; · iexact HA
      isplitl [HB]; · iexact HB
      isplitl [HC]; · iexact HC
      isplitl [HD]; · iexact HD
      isplitl [HE]; · iexact HE
      iexact HF
    iexact Hsems
  iexists W'; isplitr
  · ipureintro; exact fun p hp => (hW' p hp).imp_right Or.inl
  · iexact HO

/-- Every tile, given its part of the arrays, runs the body safely and returns its part with the results filled in. -/
theorem tileObl (X : Ins F) (hX : X.Ok) : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task X hX d (coordsV ⟨_, hci.1⟩ ⟨_, hci.2⟩) (no c i) (tileNo_val _ _) O W hO

end Cert.KernelIdeal.Sc
-- ==== Proof.TcBody.lean ====
/-
  One grid point of the TensorCore call: what the body leaves in the three running results.
-/
module

public import proofs.«01_k».proof.Proof.Common
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.Value
public import Idealize.ShloMosaic.Lib.Tactic

@[expose] public section

set_option maxRecDepth 16384

noncomputable section

namespace Cert.KernelIdeal.Tc

open Cert.KernelIdeal Cert.KernelIdeal.Gen Cert.KernelIdeal.Sc
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Memref `M`'s buffer on the TensorCore: its contents, and it held whole. -/
abbrev Bf (c : Dev nD) {sp : Space} {S : Shape} {e : EltTy} (M : Memref sig .tc sp S e) : Type := Buf (Elt F) (M.view.loc (c : Thread nD τ))
/-- A buffer held whole, with its contents. -/
abbrev pt (c : Dev nD) {sp : Space} {S : Shape} {e : EltTy} (M : Memref sig .tc sp S e) (f : Bf (F := F) c M) : sProp 𝕄 :=
  M.view.loc (c : Thread nD τ) ↦{fullShare} f

/-- The two zero offsets, as a constant function. -/
theorem hz : (![0, 0] : Fin 2 → Nat) = fun _ => 0 := funext fun a => by fin_cases a <;> rfl

/-- What a view reads after a last store over its whole shape: that store's payload. -/
theorem read_stored {sp : Space} {S : Shape} {e : EltTy} {off : Fin S.rank → Nat} (h : off = fun _ => 0) (inb : ∀ a, off a + S.size a ≤ S.size a)
    (v : View sig .tc sp S e) (f : v.ty.Contents (Elt F)) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self .., View.mem_set_unit_zero h inb y⟩), View.canon_cons_unit_zero h]

/-- Whether the body's reset runs: at grid point 0. -/
abbrev isFirst (i : grid0.Coords) : Prop :=
  Scalar.cmpi .ne (Scalar.extui (Scalar.cmpi .eq (BitVec.ofNat 32 (i 0).val) 0#32) : BitVec 32) 0#32 = 1#1

/-- The running sum of the loss, in the one cell of its array. -/
abbrev oneCell (v : F .f32) : FVec F S1x1 .f32 := fun _ => v

/-- At the first point the body starts each running result at zero. -/
theorem body_first (c : Dev nD) (i : grid0.Coords) (hi : isFirst i)
    (M1 : Memref sig .tc .vmem S256x1500 .f32) (h1 : M1.IsWhole) (M2 : Memref sig .tc .vmem S256x1500 .f32) (h2 : M2.IsWhole)
    (M3 : Memref sig .tc .smem S1x1 .f32) (h3 : M3.IsWhole) (M4 : Memref sig .tc .vmem S1x1500 .f32) (h4 : M4.IsWhole)
    (M5 : Memref sig .tc .vmem S1500x1500 .f32) (h5 : M5.IsWhole)
    (f1 : Bf (F := F) c M1) (f2 : Bf (F := F) c M2) (f3 : Bf (F := F) c M3) (f4 : Bf (F := F) c M4) (f5 : Bf (F := F) c M5)
    (x t : FVec F S256x1500 .f32)
    (e1 : M1.view.read (Elt F) f1 = x) (e2 : M2.view.read (Elt F) f2 = t) (E : Set ℕ) (Q : PUnit → sProp 𝕄) :
    iprop(pt c M1 f1 ∗ pt c M2 f2 ∗ pt c M3 f3 ∗ pt c M4 f4 ∗ pt c M5 f5
        ∗ (iprop(pt c M1 f1 ∗ pt c M2 f2
            ∗ (∃ g, ⌜M3.view.read (Elt F) g = oneCell (k0_pay4 x t (Scalar.ofBits .f32 0x00000000#32))⌝ ∗ pt c M3 g)
            ∗ (∃ g, ⌜M4.view.read (Elt F) g = k0_pay5 x k0_pay2⌝ ∗ pt c M4 g)
            ∗ (∃ g, ⌜M5.view.read (Elt F) g = k0_pay6 x k0_pay3⌝ ∗ pt c M5 g)) -∗ Q ⟨⟩))
      ⊢ wp frame (wpE (defs₀ (F := F)) 𝒱₀ c none) E (cc0__tc_body i M1 h1 M2 h2 M3 h3 M4 h4 M5 h5) Q := by
  rw [cc0__tc_body_eq_skeleton]; unfold cc0__tc_body_skel
  rw [k0_part1_eq_skeleton]; unfold k0_part1_skel
  iintro ⟨H1, H2, H3, H4, H5, Hk⟩
  sl_exec!
  sl_step
  iapply Hk
  isplitl [H1]; · iexact H1
  isplitl [H2]; · iexact H2
  isplitl [H3]
  · iexists _; isplitr
    swap; · iexact H3
    ipureintro
    sl_unfold_words
    refine (read_stored (S := S1x1) hz _ _ _ _ _).trans ?_
    simp only [View.readAt_eq_ld, View.ld_unit_zero (S := S256x1500) hz, View.ld_unit_zero (S := S1x1) hz, View.readCov_unit_zero (S := S1x1) _ hz, e1, e2]
    rfl
  isplitl [H4]
  · iexists _; isplitr
    swap; · iexact H4
    ipureintro
    sl_unfold_words
    refine (read_stored (S := S1x1500) hz _ _ _ _ _).trans ?_
    simp only [View.readAt_eq_ld, View.ld_unit_zero (S := S256x1500) hz, View.ld_unit_zero (S := S1x1500) hz, View.readCov_unit_zero (S := S1x1500) _ hz, e1, e2]
  · iexists _; isplitr
    swap; · iexact H5
    ipureintro
    sl_unfold_words
    refine (read_stored (S := S1500x1500) hz _ _ _ _ _).trans ?_
    simp only [View.readAt_eq_ld, View.ld_unit_zero (S := S256x1500) hz, View.ld_unit_zero (S := S1500x1500) hz, View.readCov_unit_zero (S := S1500x1500) _ hz, e1, e2]

/-- Past the first point the body adds the point's part to each running result. -/
theorem body_next (c : Dev nD) (i : grid0.Coords) (hi : ¬ isFirst i)
    (M1 : Memref sig .tc .vmem S256x1500 .f32) (h1 : M1.IsWhole) (M2 : Memref sig .tc .vmem S256x1500 .f32) (h2 : M2.IsWhole)
    (M3 : Memref sig .tc .smem S1x1 .f32) (h3 : M3.IsWhole) (M4 : Memref sig .tc .vmem S1x1500 .f32) (h4 : M4.IsWhole)
    (M5 : Memref sig .tc .vmem S1500x1500 .f32) (h5 : M5.IsWhole)
    (f1 : Bf (F := F) c M1) (f2 : Bf (F := F) c M2) (f3 : Bf (F := F) c M3) (f4 : Bf (F := F) c M4) (f5 : Bf (F := F) c M5)
    (x t : FVec F S256x1500 .f32) (a3 : F .f32) (a4 : FVec F S1x1500 .f32) (a5 : FVec F S1500x1500 .f32)
    (e1 : M1.view.read (Elt F) f1 = x) (e2 : M2.view.read (Elt F) f2 = t)
    (e3 : M3.view.read (Elt F) f3 = oneCell a3) (e4 : M4.view.read (Elt F) f4 = a4) (e5 : M5.view.read (Elt F) f5 = a5) (E : Set ℕ) (Q : PUnit → sProp 𝕄) :
    iprop(pt c M1 f1 ∗ pt c M2 f2 ∗ pt c M3 f3 ∗ pt c M4 f4 ∗ pt c M5 f5
        ∗ (iprop(pt c M1 f1 ∗ pt c M2 f2
            ∗ (∃ g, ⌜M3.view.read (Elt F) g = oneCell (k0_pay4 x t a3)⌝ ∗ pt c M3 g)
            ∗ (∃ g, ⌜M4.view.read (Elt F) g = k0_pay5 x a4⌝ ∗ pt c M4 g)
            ∗ (∃ g, ⌜M5.view.read (Elt F) g = k0_pay6 x a5⌝ ∗ pt c M5 g)) -∗ Q ⟨⟩))
      ⊢ wp frame (wpE (defs₀ (F := F)) 𝒱₀ c none) E (cc0__tc_body i M1 h1 M2 h2 M3 h3 M4 h4 M5 h5) Q := by
  rw [cc0__tc_body_eq_skeleton]; unfold cc0__tc_body_skel
  rw [k0_part1_eq_skeleton]; unfold k0_part1_skel
  iintro ⟨H1, H2, H3, H4, H5, Hk⟩
  sl_exec!
  sl_step
  iapply Hk
  isplitl [H1]; · iexact H1
  isplitl [H2]; · iexact H2
  isplitl [H3]
  · iexists _; isplitr
    swap; · iexact H3
    ipureintro
    sl_unfold_words
    refine (read_stored (S := S1x1) hz _ _ _ _ _).trans ?_
    simp only [View.readAt_eq_ld, View.ld_unit_zero (S := S256x1500) hz, View.ld_unit_zero (S := S1x1) hz, e1, e2, e3, e4, e5]
    rfl
  isplitl [H4]
  · iexists _; isplitr
    swap; · iexact H4
    ipureintro
    sl_unfold_words
    refine (read_stored (S := S1x1500) hz _ _ _ _ _).trans ?_
    simp only [View.readAt_eq_ld, View.ld_unit_zero (S := S256x1500) hz, View.ld_unit_zero (S := S1x1500) hz, e1, e2, e3, e4, e5]
  · iexists _; isplitr
    swap; · iexact H5
    ipureintro
    sl_unfold_words
    refine (read_stored (S := S1500x1500) hz _ _ _ _ _).trans ?_
    simp only [View.readAt_eq_ld, View.ld_unit_zero (S := S256x1500) hz, View.ld_unit_zero (S := S1500x1500) hz, e1, e2, e3, e4, e5]

end Cert.KernelIdeal.Tc
-- ==== Proof.TcRegion.lean ====
/-
  The TensorCore call over its grid: the running results after each point, and the call as a region of @main that leaves the three
  result arrays at those running results after the last point.
-/
module

public import proofs.«01_k».proof.Proof.TcBody

@[expose] public section

set_option maxRecDepth 16384

noncomputable section

namespace Cert.KernelIdeal.Tc

open Cert.KernelIdeal Cert.KernelIdeal.Gen Cert.KernelIdeal.Sc
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The running loss after point `n`, over the points' blocks of the logits and of the targets. -/
def lossTo (xb tb : Fin grid0.N → FVec F S256x1500 .f32) : (n : ℕ) → n < grid0.N → F .f32
  | 0, h => k0_pay4 (xb ⟨0, h⟩) (tb ⟨0, h⟩) (Scalar.ofBits .f32 0x00000000#32)
  | n + 1, h => k0_pay4 (xb ⟨n + 1, h⟩) (tb ⟨n + 1, h⟩) (lossTo xb tb n (Nat.lt_of_succ_lt h))

/-- The running column sums of the probabilities after point `n`. -/
def colTo (xb : Fin grid0.N → FVec F S256x1500 .f32) : (n : ℕ) → n < grid0.N → FVec F S1x1500 .f32
  | 0, h => k0_pay5 (xb ⟨0, h⟩) k0_pay2
  | n + 1, h => k0_pay5 (xb ⟨n + 1, h⟩) (colTo xb n (Nat.lt_of_succ_lt h))

/-- The running sums of products of probabilities after point `n`. -/
def prodTo (xb : Fin grid0.N → FVec F S256x1500 .f32) : (n : ℕ) → n < grid0.N → FVec F S1500x1500 .f32
  | 0, h => k0_pay6 (xb ⟨0, h⟩) k0_pay3
  | n + 1, h => k0_pay6 (xb ⟨n + 1, h⟩) (prodTo xb n (Nat.lt_of_succ_lt h))

/-- The body's reset runs at point 0 and at no other. -/
theorem isFirst_iff : ∀ t : Fin grid0.N, isFirst (grid0.coords t) ↔ t.val = 0 := by decide +kernel

/-- The running loss after the first point starts from zero. -/
theorem lossTo_zero (xb tb : Fin grid0.N → FVec F S256x1500 .f32) (t : Fin grid0.N) (h : t.val = 0) :
    lossTo xb tb t.val t.isLt = k0_pay4 (xb t) (tb t) (Scalar.ofBits .f32 0x00000000#32) := by
  obtain ⟨n, hn⟩ := t; cases n with
  | zero => rfl
  | succ n => exact absurd h (Nat.succ_ne_zero n)
/-- The running loss after a later point adds to the one before. -/
theorem lossTo_succ (xb tb : Fin grid0.N → FVec F S256x1500 .f32) (t : Fin grid0.N) (h : t.val ≠ 0) :
    lossTo xb tb t.val t.isLt = k0_pay4 (xb t) (tb t) (lossTo xb tb (t.val - 1) (Nat.lt_of_le_of_lt (Nat.sub_le _ _) t.isLt)) := by
  obtain ⟨n, hn⟩ := t; cases n with
  | zero => exact absurd rfl h
  | succ n => rfl
/-- The running column sums after the first point start from zero. -/
theorem colTo_zero (xb : Fin grid0.N → FVec F S256x1500 .f32) (t : Fin grid0.N) (h : t.val = 0) :
    colTo xb t.val t.isLt = k0_pay5 (xb t) k0_pay2 := by
  obtain ⟨n, hn⟩ := t; cases n with
  | zero => rfl
  | succ n => exact absurd h (Nat.succ_ne_zero n)
/-- The running column sums after a later point add to those before. -/
theorem colTo_succ (xb : Fin grid0.N → FVec F S256x1500 .f32) (t : Fin grid0.N) (h : t.val ≠ 0) :
    colTo xb t.val t.isLt = k0_pay5 (xb t) (colTo xb (t.val - 1) (Nat.lt_of_le_of_lt (Nat.sub_le _ _) t.isLt)) := by
  obtain ⟨n, hn⟩ := t; cases n with
  | zero => exact absurd rfl h
  | succ n => rfl
/-- The running sums of products after the first point start from zero. -/
theorem prodTo_zero (xb : Fin grid0.N → FVec F S256x1500 .f32) (t : Fin grid0.N) (h : t.val = 0) :
    prodTo xb t.val t.isLt = k0_pay6 (xb t) k0_pay3 := by
  obtain ⟨n, hn⟩ := t; cases n with
  | zero => rfl
  | succ n => exact absurd h (Nat.succ_ne_zero n)
/-- The running sums of products after a later point add to those before. -/
theorem prodTo_succ (xb : Fin grid0.N → FVec F S256x1500 .f32) (t : Fin grid0.N) (h : t.val ≠ 0) :
    prodTo xb t.val t.isLt = k0_pay6 (xb t) (prodTo xb (t.val - 1) (Nat.lt_of_le_of_lt (Nat.sub_le _ _) t.isLt)) := by
  obtain ⟨n, hn⟩ := t; cases n with
  | zero => exact absurd rfl h
  | succ n => rfl

variable (V : (c : Dev nD) → (b : Ref sig .tc) → Buf (Elt F) ((c : Thread nD τ).loc b))

/-- The block of the logits that point `t` stages. -/
abbrev xBlk (c : Dev nD) (t : Fin grid0.N) : FVec F S256x1500 .f32 := ((cfg0.win 0).blk t).view.read (Elt F) (V c main_arg0)
/-- The block of the targets that point `t` stages. -/
abbrev tBlk (c : Dev nD) (t : Fin grid0.N) : FVec F S256x1500 .f32 := ((cfg0.win 1).blk t).view.read (Elt F) (V c main_arg1)

/-- What the TensorCore owes while the call runs: the start of the SparseCore's call. -/
abbrev owes₀ (c : Dev nD) : CellTallies nD τ sig (HIx 1) := (K (F := F)).Otc c 0

/-- The call's proof data: the arrays at the entry valuation; after the body at `t` the inputs' buffers as staged and the results'
    at the running values after `t`. -/
def dat (c : Dev nD) : Dat τ (Elt F) (HIx 1) ℕ UU ℕ cfg0 c where
  A w := V c (Pipeline.arrRef spec0 w)
  after w t := match w with
    | ⟨0, _⟩ => xBlk V c t
    | ⟨1, _⟩ => tBlk V c t
    | ⟨2, _⟩ => oneCell (lossTo (xBlk V c) (tBlk V c) t.val t.isLt)
    | ⟨3, _⟩ => colTo (xBlk V c) t.val t.isLt
    | ⟨4, _⟩ => prodTo (xBlk V c) t.val t.isLt
  Φ _ := Pipeline.scopedRest (Ix := HIx 1) (Name := ℕ) (U := UU) (Lvl := ℕ) (Val := Elt F) spec0 c
  q _ := fullShare
  owed _ := owes₀ (F := F) c
  recorded _ := {p | (K (F := F)).lev (SparseCore.T c, p.1) p.2 ≤ 0}

variable (adm : (p : Fin 1) → (pcfgs (F := F) p).Adm)

/-- The program's one pipeline's proof data. -/
def pdats : (p : Fin 1) → (c : Dev nD) → Dat τ (Elt F) (HIx 1) ℕ UU ℕ (Pipeline.pin (pcfgs (F := F)) adm p) c
  | ⟨0, _⟩ => fun c => dat V c

/-- Before the body at `t` the first buffer holds the block of the logits. -/
theorem before_x (c : Dev nD) (t : Fin cfg0.N) (d) : (dat V c).before 0 t d = xBlk V c t := by
  unfold Dat.before; rw [if_pos (fetch0_0 t)]; rfl
/-- Before the body at `t` the second buffer holds the block of the targets. -/
theorem before_t (c : Dev nD) (t : Fin cfg0.N) (d) : (dat V c).before 1 t d = tBlk V c t := by
  unfold Dat.before; rw [if_pos (fetch0_1 t)]; rfl

/-- A window written back at the last point only is not written back at the point before a later one. -/
theorem not_flushed {w : Fin cfg0.W} (hf : ∀ t : Fin cfg0.N, (cfg0.win w).flush t = true ↔ t.val % 8 = 7) (t : Fin cfg0.N) (ht : t.val ≠ 0) :
    (cfg0.win w).flush ⟨t.val - 1, Nat.lt_of_le_of_lt (Nat.sub_le _ _) t.isLt⟩ = false := by
  rw [← Bool.not_eq_true, hf]
  have := t.isLt; have hN : cfg0.N = 8 := N_0
  dsimp only; omega

/-- Before the body at a later point the loss's buffer holds the running loss of the point before. -/
theorem before_loss (c : Dev nD) (t : Fin cfg0.N) (ht : t.val ≠ 0) (d) :
    (dat V c).before 2 t d = oneCell (lossTo (xBlk V c) (tBlk V c) (t.val - 1) (Nat.lt_of_le_of_lt (Nat.sub_le _ _) t.isLt)) := by
  rw [Dat.before_out_kept (dat V c) 2 rfl t ht (not_flushed flush0_2 t ht) (fun _ => rfl) (fun _ _ => rfl) d]
  dsimp only [dat]
/-- Before the body at a later point the column sums' buffer holds those of the point before. -/
theorem before_col (c : Dev nD) (t : Fin cfg0.N) (ht : t.val ≠ 0) (d) :
    (dat V c).before 3 t d = colTo (xBlk V c) (t.val - 1) (Nat.lt_of_le_of_lt (Nat.sub_le _ _) t.isLt) := by
  rw [Dat.before_out_kept (dat V c) 3 rfl t ht (not_flushed flush0_3 t ht) (fun _ => rfl) (fun _ _ => rfl) d]
  dsimp only [dat]
/-- Before the body at a later point the products' buffer holds those of the point before. -/
theorem before_prod (c : Dev nD) (t : Fin cfg0.N) (ht : t.val ≠ 0) (d) :
    (dat V c).before 4 t d = prodTo (xBlk V c) (t.val - 1) (Nat.lt_of_le_of_lt (Nat.sub_le _ _) t.isLt) := by
  rw [Dat.before_out_kept (dat V c) 4 rfl t ht (not_flushed flush0_4 t ht) (fun _ => rfl) (fun _ _ => rfl) d]
  dsimp only [dat]

omit [FloatOps F] in
/-- A whole memref owned at contents `X` is its buffer held at something that reads as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt; rw [h.set_eq_univ]

/-- The body at every point leaves the buffers as the proof data says. -/
theorem body_obligation (c : Dev nD) : BodyObligation (dat V c) (defs₀ (F := F)) 𝒱₀ (none : HIx 1) Set.univ := fun t => by
  rw [bigSep_W0, bigSep_W0]
  simp only [owns_pt c (st0_0 t) (hstage0_0 ((cfg0.slots t 0).cast nbuf0_0)), owns_pt c (st0_1 t) (hstage0_1 ((cfg0.slots t 1).cast nbuf0_1)),
    owns_pt c (st0_2 t) (hstage0_2 ((cfg0.slots t 2).cast nbuf0_2)), owns_pt c (st0_3 t) (hstage0_3 ((cfg0.slots t 3).cast nbuf0_3)),
    owns_pt c (st0_4 t) (hstage0_4 ((cfg0.slots t 4).cast nbuf0_4))]
  rw [show (dat V c).Φ t.castSucc = (dat V c).Φ t.succ from rfl,
    show (dat V c).owesAt (none : HIx 1) t.succ = (dat V c).owesAt (none : HIx 1) t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩⟩
  rw [before_x] at hf0
  rw [before_t] at hf1
  by_cases ht : t.val = 0
  · iapply (body_first c (grid0.coords t) ((isFirst_iff t).mpr ht)
      (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) f0 f1 f2 f3 f4 (xBlk V c t) (tBlk V c t) hf0 hf1 Set.univ _)
    isplitl [H0]; · iexact H0
    isplitl [H1]; · iexact H1
    isplitl [H2]; · iexact H2
    isplitl [H3]; · iexact H3
    isplitl [H4]; · iexact H4
    iintro ⟨H0, H1, ⟨%g2, %e2, H2⟩, ⟨%g3, %e3, H3⟩, ⟨%g4, %e4, H4⟩⟩
    isplitl [HΦ]; · iexact HΦ
    isplitl [Howes]; · iexact Howes
    isplitl [H0]; · iexists f0; isplitr; swap; (· iexact H0); ipureintro; dsimp only [dat]; exact hf0
    isplitl [H1]; · iexists f1; isplitr; swap; (· iexact H1); ipureintro; dsimp only [dat]; exact hf1
    isplitl [H2]; · iexists g2; isplitr; swap; (· iexact H2); ipureintro; dsimp only [dat]; rw [lossTo_zero _ _ t ht]; exact e2
    isplitl [H3]; · iexists g3; isplitr; swap; (· iexact H3); ipureintro; dsimp only [dat]; rw [colTo_zero _ t ht]; exact e3
    iexists g4; isplitr; swap; (· iexact H4); ipureintro; dsimp only [dat]; rw [prodTo_zero _ t ht]; exact e4
  · rw [before_loss V c t ht] at hf2
    rw [before_col V c t ht] at hf3
    rw [before_prod V c t ht] at hf4
    iapply (body_next c (grid0.coords t) (fun h => ht ((isFirst_iff t).mp h))
      (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) f0 f1 f2 f3 f4 (xBlk V c t) (tBlk V c t) _ _ _ hf0 hf1 hf2 hf3 hf4 Set.univ _)
    isplitl [H0]; · iexact H0
    isplitl [H1]; · iexact H1
    isplitl [H2]; · iexact H2
    isplitl [H3]; · iexact H3
    isplitl [H4]; · iexact H4
    iintro ⟨H0, H1, ⟨%g2, %e2, H2⟩, ⟨%g3, %e3, H3⟩, ⟨%g4, %e4, H4⟩⟩
    isplitl [HΦ]; · iexact HΦ
    isplitl [Howes]; · iexact Howes
    isplitl [H0]; · iexists f0; isplitr; swap; (· iexact H0); ipureintro; dsimp only [dat]; exact hf0
    isplitl [H1]; · iexists f1; isplitr; swap; (· iexact H1); ipureintro; dsimp only [dat]; exact hf1
    isplitl [H2]; · iexists g2; isplitr; swap; (· iexact H2); ipureintro; dsimp only [dat]; rw [lossTo_succ _ _ t ht]; exact e2
    isplitl [H3]; · iexists g3; isplitr; swap; (· iexact H3); ipureintro; dsimp only [dat]; rw [colTo_succ _ t ht]; exact e3
    iexists g4; isplitr; swap; (· iexact H4); ipureintro; dsimp only [dat]; rw [prodTo_succ _ t ht]; exact e4

/-! ### The result arrays after the last point -/

/-- Point 7 is a point of the grid. -/
theorem last_lt : 7 < grid0.N := by rw [N_0]; decide

/-- The summed loss when the call returns. -/
abbrev lossArr (c : Dev nD) : FVec F S1x1 .f32 := oneCell (lossTo (xBlk V c) (tBlk V c) 7 last_lt)
/-- The column sums when the call returns. -/
abbrev colArr (c : Dev nD) : FVec F S1x1500 .f32 := colTo (xBlk V c) 7 last_lt
/-- The sums of products when the call returns. -/
abbrev prodArr (c : Dev nD) : FVec F S1500x1500 .f32 := prodTo (xBlk V c) 7 last_lt

/-- A point whose number leaves 7 over 8 is the last. -/
theorem last_point (t : Fin cfg0.N) (h : t.val % 8 = 7) : t = t0_7 := by
  have := t.isLt; have hN : cfg0.N = 8 := N_0
  exact Fin.ext (by show t.val = 7; omega)

/-- After the last point the loss's array holds the running loss there. -/
theorem final_loss (c : Dev nD) : (dat V c).arrAt 2 cfg0.N = lossArr V c :=
  (dat V c).arrAt_eq_of_cover 2 (lossArr V c) (fun t hf => by
      obtain rfl := last_point t ((flush0_2 t).mp hf)
      show (cfg0.win 2).cut (grid0.coords t0_7) ((dat V c).after 2 t0_7) = _
      have hz' : (fun a => win0_2.index t0_7 a * main_v0_0.ty.shape.size a) = fun _ => 0 := funext fun a => by fin_cases a <;> decide
      exact (Memref.read_access_unit_zero (Elt F) main_v0_0 hz' (fun a => by rw [congrFun hz' a]; simp) (lossArr V c)).symm) fun i =>
    ⟨t0_7, (flush0_2 t0_7).mpr rfl, by
      show i ∈ ((View.whole main_v0_0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- After the last point the column sums' array holds those there. -/
theorem final_col (c : Dev nD) : (dat V c).arrAt 3 cfg0.N = colArr V c :=
  (dat V c).arrAt_eq_of_cover 3 (colArr V c) (fun t hf => by
      obtain rfl := last_point t ((flush0_3 t).mp hf)
      show (cfg0.win 3).cut (grid0.coords t0_7) ((dat V c).after 3 t0_7) = _
      have hz' : (fun a => win0_3.index t0_7 a * main_v0_1.ty.shape.size a) = fun _ => 0 := funext fun a => by fin_cases a <;> decide
      exact (Memref.read_access_unit_zero (Elt F) main_v0_1 hz' (fun a => by rw [congrFun hz' a]; simp) (colArr V c)).symm) fun i =>
    ⟨t0_7, (flush0_3 t0_7).mpr rfl, by
      show i ∈ ((View.whole main_v0_1).slice (win0_3.rect t0_7)).set
      rw [View.set_slice_whole, Rect.mem_set_unit]
      intro a
      have h0 : (i 0 : Nat) < 1 := (i 0).isLt
      have h1 : (i 1 : Nat) < 1500 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1500 from by decide +kernel]; omega⟩

/-- After the last point the products' array holds those there. -/
theorem final_prod (c : Dev nD) : (dat V c).arrAt 4 cfg0.N = prodArr V c :=
  (dat V c).arrAt_eq_of_cover 4 (prodArr V c) (fun t hf => by
      obtain rfl := last_point t ((flush0_4 t).mp hf)
      show (cfg0.win 4).cut (grid0.coords t0_7) ((dat V c).after 4 t0_7) = _
      have hz' : (fun a => win0_4.index t0_7 a * main_v0_2.ty.shape.size a) = fun _ => 0 := funext fun a => by fin_cases a <;> decide
      exact (Memref.read_access_unit_zero (Elt F) main_v0_2 hz' (fun a => by rw [congrFun hz' a]; simp) (prodArr V c)).symm) fun i =>
    ⟨t0_7, (flush0_4 t0_7).mpr rfl, by
      show i ∈ ((View.whole main_v0_2).slice (win0_4.rect t0_7)).set
      rw [View.set_slice_whole, Rect.mem_set_unit]
      intro a
      have h0 : (i 0 : Nat) < 1500 := (i 0).isLt
      have h1 : (i 1 : Nat) < 1500 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1500 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 1500 from by decide +kernel]; omega⟩

/-! ### The call as a region of @main -/

/-- At the kernel's own index the TensorCore owes nothing. -/
theorem owes₀_none (c : Dev nD) (g : GSem nD τ sig) : owes₀ (F := F) c g none = 0 := by
  by_contra h
  have := SparseCore.Cfg.lev_of_Otc_pos (K := K (F := F)) (Nat.pos_of_ne_zero h)
  rw [SparseCore.Cfg.lev_none] at this; omega

variable (Vp : (c : Dev nD) → (b : Ref sig .tc) → Buf (Elt F) ((c : Thread nD τ).loc b))

/-- The core's owed starts, its waits so far at no stage of the SparseCore's call. -/
abbrev owing (c : Dev nD) : sProp 𝕄 :=
  iprop(∃ W, ⌜(K (F := F)).WBelow (SparseCore.T c) W 0⌝ ∗ owes (c : Thread nD τ) (owes₀ (F := F) c) W)

set_option backward.isDefEq.respectTransparency.types false in
/-- The call entered with every unscoped buffer at `V` and left with them at `Vp`: `V` but for the three results, which are at the
    running values after the last point. -/
def reg (hloss : ∀ c, Vp c main_v0_0 = lossArr V c) (hcol : ∀ c, Vp c main_v0_1 = colArr V c) (hprod : ∀ c, Vp c main_v0_2 = prodArr V c)
    (hne : ∀ c (b : Ref sig .tc), b ≠ main_v0_0 → b ≠ main_v0_1 → b ≠ main_v0_2 → Vp c b = V c b) :
    Pipeline.RegionSeg (pcfgs (F := F)) adm (pdats V adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun _ _ _ => (K (F := F)).mayWait_none _ (owes₀_none c)
  pre c := iprop(unscopedBufs c (V c) ∗ owing c)
  post c := iprop(unscopedBufs c (Vp c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest spec0 c from rfl]
    iintro ⟨-, -, Hr⟩; iexact Hr
  hout c := by
    rw [Pipeline.ownSems0_none, show (pdats V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hne c main_arg0 (by decide) (by decide) (by decide)).symm
        · exact ((pdats V adm 0 c).arrAt_in 1 rfl _).trans (hne c main_arg1 (by decide) (by decide) (by decide)).symm
        · exact (final_loss V c).trans (hloss c).symm
        · exact (final_col V c).trans (hcol c).symm
        · exact (final_prod V c).trans (hprod c).symm)
      (fun b hb => hne c b (fun h => hb (h ▸ Finset.mem_image.mpr ⟨2, Finset.mem_univ _, rfl⟩))
        (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · exact le_of_eq (SparseCore.Cfg.lev_none _ _)
    iexact HO

end Cert.KernelIdeal.Tc

end
-- ==== Proof.Host.lean ====
/-
  @main as four pieces: the TensorCore call, the host operations that lay its results and the index lists out for the SparseCores, the
  SparseCore call, and the host operations that make the four results. The buffers each run of host operations may touch, and those it leaves.
-/
module

public import proofs.«01_k».proof.Proof.TileObl
public import proofs.«01_k».proof.Proof.TcRegion

@[expose] public section

set_option maxRecDepth 16384

noncomputable section

namespace Cert.KernelIdeal.Sc

open Cert.KernelIdeal Cert.KernelIdeal.Gen
open Idealize.ShloMosaic
open Idealize.ShloMosaic.TcCoe
open Idealize.ShloMosaic.StableHlo
open Idealize.SL.Sem

variable {F : FTy → Type} [FloatOps F]

/-- The host operations before the SparseCore call. -/
def opsA : List (HloOp τ sig (Elt F)) :=
  [ StableHlo.reshape main_v0_2 main_v1 (rfl : (.f32 : EltTy) = .f32) shapeCasts_S1500x1500_S2250000
  , StableHlo.reshape main_v0_1 main_v2 (rfl : (.f32 : EltTy) = .f32) shapeCasts_S1x1500_S1500
  , StableHlo.nullary main_c (constantI S_ 32 0#32)
  , StableHlo.unary main_c main_v3 (broadcastInDim S12288 ![] bcast_S_S12288 : (⟨S_, .i32⟩ : BufTy).Contents (Elt F) → (⟨S12288, .i32⟩ : BufTy).Contents (Elt F))
  , StableHlo.nullary main_c_0 (constantI S_ 32 0#32)
  , StableHlo.unary main_c_0 main_v4 (broadcastInDim S1 ![] bcast_S_S1 : (⟨S_, .i32⟩ : BufTy).Contents (Elt F) → (⟨S1, .i32⟩ : BufTy).Contents (Elt F))
  , StableHlo.ternary main_v3 main_v4 main_arg2 main_v5 ((fun x i u => Host.scatter scatter_S12288_S1_S10000_0_n_0_0 (fun _ b => b) x i u) : (⟨S12288, .i32⟩ : BufTy).Contents (Elt F) → (⟨S1, .i32⟩ : BufTy).Contents (Elt F) → (⟨S10000, .i32⟩ : BufTy).Contents (Elt F) → (⟨S12288, .i32⟩ : BufTy).Contents (Elt F))
  , StableHlo.nullary main_c_1 (constantI S_ 32 0#32)
  , StableHlo.unary main_c_1 main_v6 (broadcastInDim S12288 ![] bcast_S_S12288 : (⟨S_, .i32⟩ : BufTy).Contents (Elt F) → (⟨S12288, .i32⟩ : BufTy).Contents (Elt F))
  , StableHlo.nullary main_c_2 (constantI S_ 32 0#32)
  , StableHlo.unary main_c_2 main_v7 (broadcastInDim S1 ![] bcast_S_S1 : (⟨S_, .i32⟩ : BufTy).Contents (Elt F) → (⟨S1, .i32⟩ : BufTy).Contents (Elt F))
  , StableHlo.ternary main_v6 main_v7 main_arg3 main_v8 ((fun x i u => Host.scatter scatter_S12288_S1_S10000_0_n_0_0 (fun _ b => b) x i u) : (⟨S12288, .i32⟩ : BufTy).Contents (Elt F) → (⟨S1, .i32⟩ : BufTy).Contents (Elt F) → (⟨S10000, .i32⟩ : BufTy).Contents (Elt F) → (⟨S12288, .i32⟩ : BufTy).Contents (Elt F))
  , StableHlo.nullary main_c_3 (constantI S_ 32 0#32)
  , StableHlo.unary main_c_3 main_v9 (broadcastInDim S4096 ![] bcast_S_S4096 : (⟨S_, .i32⟩ : BufTy).Contents (Elt F) → (⟨S4096, .i32⟩ : BufTy).Contents (Elt F))
  , StableHlo.nullary main_c_4 (constantI S_ 32 0#32)
  , StableHlo.unary main_c_4 main_v10 (broadcastInDim S1 ![] bcast_S_S1 : (⟨S_, .i32⟩ : BufTy).Contents (Elt F) → (⟨S1, .i32⟩ : BufTy).Contents (Elt F))
  , StableHlo.ternary main_v9 main_v10 main_arg4 main_v11 ((fun x i u => Host.scatter scatter_S4096_S1_S4000_0_n_0_0 (fun _ b => b) x i u) : (⟨S4096, .i32⟩ : BufTy).Contents (Elt F) → (⟨S1, .i32⟩ : BufTy).Contents (Elt F) → (⟨S4000, .i32⟩ : BufTy).Contents (Elt F) → (⟨S4096, .i32⟩ : BufTy).Contents (Elt F))
  , StableHlo.nullary main_c_5 (constantI S_ 32 0#32)
  , StableHlo.unary main_c_5 main_v12 (broadcastInDim S4096 ![] bcast_S_S4096 : (⟨S_, .i32⟩ : BufTy).Contents (Elt F) → (⟨S4096, .i32⟩ : BufTy).Contents (Elt F))
  , StableHlo.nullary main_c_6 (constantI S_ 32 0#32)
  , StableHlo.unary main_c_6 main_v13 (broadcastInDim S1 ![] bcast_S_S1 : (⟨S_, .i32⟩ : BufTy).Contents (Elt F) → (⟨S1, .i32⟩ : BufTy).Contents (Elt F))
  , StableHlo.ternary main_v12 main_v13 main_arg5 main_v14 ((fun x i u => Host.scatter scatter_S4096_S1_S4000_0_n_0_0 (fun _ b => b) x i u) : (⟨S4096, .i32⟩ : BufTy).Contents (Elt F) → (⟨S1, .i32⟩ : BufTy).Contents (Elt F) → (⟨S4000, .i32⟩ : BufTy).Contents (Elt F) → (⟨S4096, .i32⟩ : BufTy).Contents (Elt F)) ]

/-- The host operations after the SparseCore call. -/
def opsB : List (HloOp τ sig (Elt F)) :=
  [ StableHlo.nullary main_cst (constant S_ .f32 0x00000000#32)
  , StableHlo.binary main_v15 main_cst main_v16 ((fun x v => Host.reduceAdd x v reducesTo_S32x3x16_S3_d0_2 h_S_) : (⟨S32x3x16, .f32⟩ : BufTy).Contents (Elt F) → (⟨S_, .f32⟩ : BufTy).Contents (Elt F) → (⟨S3, .f32⟩ : BufTy).Contents (Elt F))
  , StableHlo.reshape main_v0_0 main_v17 (rfl : (.f32 : EltTy) = .f32) shapeCasts_S1x1_S_
  , StableHlo.nullary main_cst_7 (constant S_ .f32 0x4A3B8000#32)
  , StableHlo.binary main_v17 main_cst_7 main_v18 (Host.divf : (⟨S_, .f32⟩ : BufTy).Contents (Elt F) → (⟨S_, .f32⟩ : BufTy).Contents (Elt F) → (⟨S_, .f32⟩ : BufTy).Contents (Elt F))
  , StableHlo.unary main_v16 main_v19 ((extractStridedSlice S1 ![0] · slices_S3_S1_0) : (⟨S3, .f32⟩ : BufTy).Contents (Elt F) → (⟨S1, .f32⟩ : BufTy).Contents (Elt F))
  , StableHlo.reshape main_v19 main_v20 (rfl : (.f32 : EltTy) = .f32) shapeCasts_S1_S_
  , StableHlo.unary main_v16 main_v21 ((extractStridedSlice S1 ![1] · slices_S3_S1_1) : (⟨S3, .f32⟩ : BufTy).Contents (Elt F) → (⟨S1, .f32⟩ : BufTy).Contents (Elt F))
  , StableHlo.reshape main_v21 main_v22 (rfl : (.f32 : EltTy) = .f32) shapeCasts_S1_S_
  , StableHlo.binary main_v20 main_v22 main_v23 (subf : (⟨S_, .f32⟩ : BufTy).Contents (Elt F) → (⟨S_, .f32⟩ : BufTy).Contents (Elt F) → (⟨S_, .f32⟩ : BufTy).Contents (Elt F))
  , StableHlo.nullary main_cst_8 (constant S_ .f32 0x45000000#32)
  , StableHlo.binary main_v23 main_cst_8 main_v24 (Host.divf : (⟨S_, .f32⟩ : BufTy).Contents (Elt F) → (⟨S_, .f32⟩ : BufTy).Contents (Elt F) → (⟨S_, .f32⟩ : BufTy).Contents (Elt F))
  , StableHlo.unary main_v16 main_v25 ((extractStridedSlice S1 ![2] · slices_S3_S1_2) : (⟨S3, .f32⟩ : BufTy).Contents (Elt F) → (⟨S1, .f32⟩ : BufTy).Contents (Elt F))
  , StableHlo.reshape main_v25 main_v26 (rfl : (.f32 : EltTy) = .f32) shapeCasts_S1_S_
  , StableHlo.nullary main_cst_9 (constant S_ .f32 0x45000000#32)
  , StableHlo.binary main_v26 main_cst_9 main_v27 (Host.divf : (⟨S_, .f32⟩ : BufTy).Contents (Elt F) → (⟨S_, .f32⟩ : BufTy).Contents (Elt F) → (⟨S_, .f32⟩ : BufTy).Contents (Elt F))
  , StableHlo.nullary main_cst_10 (constant S_ .f32 0x3DCCCCCD#32)
  , StableHlo.binary main_cst_10 main_v24 main_v28 (mulf : (⟨S_, .f32⟩ : BufTy).Contents (Elt F) → (⟨S_, .f32⟩ : BufTy).Contents (Elt F) → (⟨S_, .f32⟩ : BufTy).Contents (Elt F))
  , StableHlo.binary main_v18 main_v28 main_v29 (addf : (⟨S_, .f32⟩ : BufTy).Contents (Elt F) → (⟨S_, .f32⟩ : BufTy).Contents (Elt F) → (⟨S_, .f32⟩ : BufTy).Contents (Elt F))
  , StableHlo.nullary main_cst_11 (constant S_ .f32 0x42C80000#32)
  , StableHlo.binary main_cst_11 main_v27 main_v30 (mulf : (⟨S_, .f32⟩ : BufTy).Contents (Elt F) → (⟨S_, .f32⟩ : BufTy).Contents (Elt F) → (⟨S_, .f32⟩ : BufTy).Contents (Elt F))
  , StableHlo.binary main_v29 main_v30 main_v31 (addf : (⟨S_, .f32⟩ : BufTy).Contents (Elt F) → (⟨S_, .f32⟩ : BufTy).Contents (Elt F) → (⟨S_, .f32⟩ : BufTy).Contents (Elt F)) ]

/-- @main is the TensorCore call, the first host operations, the SparseCore call, the last host operations. -/
theorem main_eq (d : Dev nD) : main (F := F) d
    = (Prog.lift (.customCall (SparseCore.inner (Pipeline.entry 0)) ()) >>= fun _ => seq opsA >>= fun _ => (K (F := F)).run d 0 >>= fun _ => seq opsB >>= fun _ => pure ⟨⟩) := rfl

/-- The references the first host operations write. -/
def wrA : List (Ref sig .tc) := [main_v1, main_v2, main_c, main_v3, main_c_0, main_v4, main_v5, main_c_1, main_v6, main_c_2, main_v7, main_v8, main_c_3, main_v9, main_c_4, main_v10, main_v11, main_c_5, main_v12, main_c_6, main_v13, main_v14]
/-- The references the last host operations write. -/
def wrB : List (Ref sig .tc) := [main_cst, main_v16, main_v17, main_cst_7, main_v18, main_v19, main_v20, main_v21, main_v22, main_v23, main_cst_8, main_v24, main_v25, main_v26, main_cst_9, main_v27, main_cst_10, main_v28, main_v29, main_cst_11, main_v30, main_v31]

/-- The first host operations write only the references listed. -/
theorem wrA_sub : (opsA : List (HloOp τ sig (Elt F))).Forall fun op => op.writes ⊆ (wrA.map (Proc.devRef (τ := τ) .tc)).toFinset := forall_writes_sub_of_map rfl
/-- The last host operations write only the references listed. -/
theorem wrB_sub : (opsB : List (HloOp τ sig (Elt F))).Forall fun op => op.writes ⊆ (wrB.map (Proc.devRef (τ := τ) .tc)).toFinset := forall_writes_sub_of_map rfl
/-- The first host operations allocate nothing. -/
theorem frA : (opsA : List (HloOp τ sig (Elt F))).Forall fun op => op.fresh = ∅ := forall_fresh_of_map rfl
/-- The last host operations allocate nothing. -/
theorem frB : (opsB : List (HloOp τ sig (Elt F))).Forall fun op => op.fresh = ∅ := forall_fresh_of_map rfl

/-- The first host operations touch only unscoped buffers. -/
theorem subA : ∀ op ∈ (opsA : List (HloOp τ sig (Elt F))), op.bufs ⊆ Pipeline.ucRefs τ sig := fun op h =>
  Pipeline.sub_ucRefs op ((List.forall_iff_forall_mem.mp (show (opsA : List (HloOp τ sig (Elt F))).Forall fun op => op.bufs ⊆ tcRefs τ sig from
    ⟨reshape_bufs_sub .., reshape_bufs_sub .., nullary_bufs_sub .., unary_bufs_sub .., nullary_bufs_sub .., unary_bufs_sub .., ternary_bufs_sub .., nullary_bufs_sub .., unary_bufs_sub .., nullary_bufs_sub .., unary_bufs_sub .., ternary_bufs_sub .., nullary_bufs_sub .., unary_bufs_sub .., nullary_bufs_sub .., unary_bufs_sub .., ternary_bufs_sub .., nullary_bufs_sub .., unary_bufs_sub .., nullary_bufs_sub .., unary_bufs_sub .., ternary_bufs_sub ..⟩)) op h)
/-- The last host operations touch only unscoped buffers. -/
theorem subB : ∀ op ∈ (opsB : List (HloOp τ sig (Elt F))), op.bufs ⊆ Pipeline.ucRefs τ sig := fun op h =>
  Pipeline.sub_ucRefs op ((List.forall_iff_forall_mem.mp (show (opsB : List (HloOp τ sig (Elt F))).Forall fun op => op.bufs ⊆ tcRefs τ sig from
    ⟨nullary_bufs_sub .., binary_bufs_sub .., reshape_bufs_sub .., nullary_bufs_sub .., binary_bufs_sub .., unary_bufs_sub .., reshape_bufs_sub .., unary_bufs_sub .., reshape_bufs_sub .., binary_bufs_sub .., nullary_bufs_sub .., binary_bufs_sub .., unary_bufs_sub .., reshape_bufs_sub .., nullary_bufs_sub .., binary_bufs_sub .., nullary_bufs_sub .., binary_bufs_sub .., binary_bufs_sub .., nullary_bufs_sub .., binary_bufs_sub .., binary_bufs_sub ..⟩)) op h)

end Cert.KernelIdeal.Sc

end
-- ==== Proof.Run.lean ====
/-
  The run of @main on the TensorCore and of the whole program: every buffer of the TensorCore ends at a stated value, and every counter at zero.
-/
module

public import proofs.«01_k».proof.Proof.Host

@[expose] public section

set_option maxRecDepth 16384

noncomputable section

namespace Cert.KernelIdeal.Sc

open Cert.KernelIdeal Cert.KernelIdeal.Gen
open Idealize.ShloMosaic
open Idealize.ShloMosaic.TcCoe
open Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A reference of the TensorCore as a buffer of the device. -/
abbrev dr (b : Ref sig .tc) : DevRef τ sig := Proc.devRef .tc b

/-! ## The buffers' contents after each piece of @main -/

section Values

variable (W : Dev nD → Valuation τ sig (Elt F))

/-- The contents a valuation gives the TensorCore's references. -/
abbrev refs (c : Dev nD) (b : Ref sig .tc) : Buf (Elt F) ((c : Thread nD τ).loc b) := W c (dr b)

/-- After the TensorCore call. -/
def afterTc (c : Dev nD) : Valuation τ sig (Elt F) :=
  Function.update (Function.update (Function.update (W c) (dr main_v0_0) (Tc.lossArr (refs W) c)) (dr main_v0_1) (Tc.colArr (refs W) c))
    (dr main_v0_2) (Tc.prodArr (refs W) c)

/-- The SparseCore call's arrays. -/
def insOf : Ins F where
  h d := W d (dr main_v1)
  s d := W d (dr main_v2)
  il d := W d (dr main_v5)
  ir d := W d (dr main_v8)
  dl d := W d (dr main_v11)
  dr d := W d (dr main_v14)
  o d := W d (dr main_v15)

/-- After the SparseCore call. -/
def afterSc (c : Dev nD) : Valuation τ sig (Elt F) := Function.update (W c) (dr main_v15) ((insOf W).out c)

/-- Before the SparseCore call. -/
def atSc (c : Dev nD) : Valuation τ sig (Elt F) := after opsA (afterTc W c)

/-- At the end. -/
def atEnd (c : Dev nD) : Valuation τ sig (Elt F) := after opsB (afterSc (atSc W) c)

end Values

/-! ## The SparseCore call's arrays out of the unscoped buffers -/

/-- The seven arrays. -/
def scRefs : Finset (DevRef τ sig) := {dr main_v1, dr main_v2, dr main_v5, dr main_v8, dr main_v11, dr main_v14, dr main_v15}

/-- The seven arrays are unscoped buffers. -/
theorem scRefs_sub : scRefs ⊆ Pipeline.ucRefs τ sig := by
  intro b hb
  simp only [scRefs, Finset.mem_insert, Finset.mem_singleton] at hb
  rcases hb with rfl | rfl | rfl | rfl | rfl | rfl | rfl <;>
    exact Finset.mem_filter.mpr ⟨devRef_mem_tcRefs _, by decide⟩

/-- Holding the seven arrays is holding the call's six inputs and the results' array. -/
theorem held_scRefs (W : Dev nD → Valuation τ sig (Elt F)) (d : Dev nD) :
    (held (d : Thread nD τ) scRefs (W d) : sProp 𝕄) = iprop(insAt (insOf W) d fullShare ∗ oLoc d ↦{fullShare} (insOf W).o d) := by
  have sepA : ∀ A B C : sProp 𝕄, iprop((A ∗ B) ∗ C) = iprop(A ∗ B ∗ C) := fun A B C => BI.equiv_iff.mp ⟨BI.sep_assoc, BI.sep_assoc'⟩
  unfold held scRefs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  simp only [insAt, sepA]
  rfl

/-- The call's arrays on return and the buffers it does not touch are all the unscoped buffers after the call. -/
theorem held_afterSc (W : Dev nD → Valuation τ sig (Elt F)) (d : Dev nD) :
    (iprop((insAt (insOf W) d fullShare ∗ oLoc d ↦{fullShare} (insOf W).out d) ∗ held (d : Thread nD τ) (Pipeline.ucRefs τ sig \ scRefs) (W d)) : sProp 𝕄)
      = held (d : Thread nD τ) (Pipeline.ucRefs τ sig) (afterSc W d) := by
  rw [held_sub_split (d : Thread nD τ) scRefs_sub (afterSc W d), held_scRefs (afterSc W) d,
    held_congr (d : Thread nD τ) (V := afterSc W d) (V' := W d) (S := Pipeline.ucRefs τ sig \ scRefs) fun b hb =>
      Function.update_of_ne (fun e : b = dr main_v15 => (Finset.mem_sdiff.mp hb).2 (by rw [e]; simp [scRefs])) _ _]
  have e : insAt (insOf (afterSc W)) d fullShare = (insAt (insOf W) d fullShare : sProp 𝕄) := by
    have h : ∀ b : Ref sig .tc, b ≠ main_v15 → afterSc W d (dr b) = W d (dr b) := fun b hb =>
      Function.update_of_ne (fun e => hb (Proc.devRef_injective _ e)) _ _
    unfold insAt insOf
    simp only [h main_v1 (by decide), h main_v2 (by decide), h main_v5 (by decide), h main_v8 (by decide), h main_v11 (by decide), h main_v14 (by decide)]
  have eo : (insOf (afterSc W)).o d = (insOf W).out d := by
    show afterSc W d (dr main_v15) = _
    unfold afterSc; rw [Function.update_self]
  rw [e, eo]

/-! ## The launch's ghost state -/

/-- The one pipeline is admissible. -/
abbrev adm : (p : Fin 1) → (pcfgs (F := F) p).Adm := fun p => (cfgs p).toPCfg_adm

/-- The pipeline's semaphores are distinct. -/
theorem pinj : Function.Injective (Pipeline.cellOf (nD := nD) (τ := τ) (Pipeline.pin (pcfgs (F := F)) adm)) := cellOf_inj

/-- The ghost state at launch: the rounds of the handshakes and of the pipeline at their start. -/
def u₀ : UU :=
  (initOf (K (F := F)).hsCells (K (F := F)).hsToks,
    (initOf (Pipeline.cells (Pipeline.pin (pcfgs (F := F)) adm) (pinj (F := F))) (Pipeline.launchToks (Pipeline.pin (pcfgs (F := F)) adm) (pinj (F := F))), 1))

/-- What the launch deals @main on each device: the TensorCore call's pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The ghost state at launch splits into what the handshakes and the pipeline start from. -/
theorem hu₀ (X : Ins F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P X).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adm) EP (pinj (F := F))) $$ HP with ⟨Hg, Ht⟩
  imodintro
  isplitl [HH]; · iexact HH
  isplitl [Hg Ht]
  · have e : (bigSep Finset.univ fun d : Dev nD => G (F := F) d)
        = (iprop((bigSep Finset.univ fun c : Dev nD => bigSep Finset.univ fun p => Pipeline.cellsGhost (Pipeline.pin (pcfgs (F := F)) adm) EP p c)
          ∗ (bigSep Finset.univ fun c : Dev nD => bigSep Finset.univ fun p => Pipeline.toksInit (Pipeline.pin (pcfgs (F := F)) adm) EP p c)) : sProp 𝕄) := by
      rw [bigSep_sep']
      congr 1
      · exact bigSep_congr fun c _ => (bigSep_univ_of_subsingleton (Φ := fun p : Fin 1 => Pipeline.cellsGhost (Pipeline.pin (pcfgs (F := F)) adm) EP p c) (0 : Fin 1)).symm
      · exact bigSep_congr fun c _ => (bigSep_univ_of_subsingleton (Φ := fun p : Fin 1 => Pipeline.toksInit (Pipeline.pin (pcfgs (F := F)) adm) EP p c) (0 : Fin 1)).symm
    rw [e]
    isplitl [Hg] <;> iassumption
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## @main on the TensorCore -/

variable (m : (ℓ : Loc nD τ sig) → Buf (Elt F) ℓ) (ρ : Dev nD → PrngReg)

/-- The launch memory as a valuation. -/
abbrev W₀ (c : Dev nD) : Valuation τ sig (Elt F) := launchContents m c

/-- The SparseCore call's arrays as @main brings them to the call. -/
abbrev theIns : Ins F := insOf (atSc (W₀ m))

/-- What @main keeps at its end: every unscoped buffer, at its final value. -/
abbrev FIN (d : Dev nD) : sProp 𝕄 := held (d : Thread nD τ) (Pipeline.ucRefs τ sig) (atEnd (W₀ m) d)

/-- The TensorCore call leaves every buffer but its three results as it was. -/
theorem afterTc_ne (W : Dev nD → Valuation τ sig (Elt F)) (c : Dev nD) (b : Ref sig .tc) (h0 : b ≠ main_v0_0) (h1 : b ≠ main_v0_1) (h2 : b ≠ main_v0_2) :
    refs (afterTc W) c b = refs W c b := by
  have h : ∀ r : Ref sig .tc, b ≠ r → dr b ≠ dr r := fun r hr e => hr (Proc.devRef_injective _ e)
  show afterTc W c (dr b) = W c (dr b)
  unfold afterTc
  rw [Function.update_of_ne (h _ h2), Function.update_of_ne (h _ h1), Function.update_of_ne (h _ h0)]

/-- The TensorCore call as a region of @main. -/
def theReg (W : Dev nD → Valuation τ sig (Elt F)) :
    Pipeline.RegionSeg (pcfgs (F := F)) adm (Tc.pdats (refs W) adm) (none : HIx 1) defs₀ 𝒱₀ (K (F := F)).L (K (F := F)).lev 0 :=
  Tc.reg (refs W) adm (refs (afterTc W))
    (fun c => by
      show afterTc W c (dr main_v0_0) = _
      unfold afterTc
      rw [Function.update_of_ne (by decide), Function.update_of_ne (by decide), Function.update_self])
    (fun c => by
      show afterTc W c (dr main_v0_1) = _
      unfold afterTc
      rw [Function.update_of_ne (by decide), Function.update_self])
    (fun c => Function.update_self _ _ _) (afterTc_ne W)

/-- The TensorCore call at the head of @main. -/
theorem wp_tc (W : Dev nD → Valuation τ sig (Elt F)) (κ : GSem nD τ sig → ℕ) (X : Ins F) (d : Dev nD) (Q : PUnit → sProp 𝕄) :
    iprop((boundary (d : Thread nD τ) ∗ (held (d : Thread nD τ) (Pipeline.ucRefs τ sig) (afterTc W d) ∗ Tc.owing d) -∗ Q ⟨⟩)
        ∗ boundary (d : Thread nD τ) ∗ (held (d : Thread nD τ) (Pipeline.ucRefs τ sig) (W d) ∗ Tc.owing d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have h := (Pipeline.RegionSeg.wp (pcfgs (F := F)) adm (Tc.pdats (refs W) adm) (none : HIx 1) (pinj (F := F)) EP defs₀ 𝒱₀ (K (F := F)).L (K (F := F)).lev
    (theReg W) d none (fun _ h => nomatch h) (fun u => .ret u) Q).trans
    ((K (F := F)).wp_liftProg (D (F := F)) 𝒱 (SparseCore.T d) Set.univ none _ Q)
  refine BI.Entails.trans ?_ h
  rw [← Pipeline.unscopedBufs_held, ← Pipeline.unscopedBufs_held]
  change _ ⊢ (iprop((iprop(boundary (d : Thread nD τ) ∗ (unscopedBufs d (refs (afterTc W) d) ∗ Tc.owing d))
      -∗ wp frame (wpE (D (F := F)) 𝒱 (d : Thread nD τ) none) Set.univ (.ret ⟨⟩) Q)
    ∗ boundary (d : Thread nD τ) ∗ (unscopedBufs d (refs W d) ∗ Tc.owing d) ∗ levAts (K (F := F)).L (K (F := F)).lev ∗ G d) : sProp 𝕄)
  iintro ⟨Hk, Hb, Hpre, Hl, Hg, Ht⟩
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitl [Hl]; · iexact Hl
  isplitl [Hg] <;> iassumption

/-- What a TensorCore holds between calls, but for what it owes. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- What the TensorCore has before the SparseCore call: the start it owes and the rest. -/
theorem tcSt_zero (d : Dev nD) : (K (F := F)).tcSt EH d 0 = (iprop(Tc.owing d ∗ tcRest d) : sProp 𝕄) := rfl

/-- The SparseCore call in the middle of @main: it takes the seven arrays out of the unscoped buffers and puts them back, the
    output at the tiles' values. -/
theorem wp_sc (W : Dev nD → Valuation τ sig (Elt F)) (κ : GSem nD τ sig → ℕ) (d : Dev nD) (k : PUnit → Prog (TpuEff nD τ sig (Elt F) (SparseCore.Sig (ΛP (F := F)) 1) .tc) PUnit) (Q : PUnit → sProp 𝕄) :
    iprop((K (F := F)).ctx EH (P (insOf W)) κ ∗ (K (F := F)).tcSt EH d 0 ∗ held (d : Thread nD τ) (Pipeline.ucRefs τ sig) (W d)
        ∗ ((K (F := F)).tcSt EH d 1 ∗ held (d : Thread nD τ) (Pipeline.ucRefs τ sig) (afterSc W d)
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ ((K (F := F)).run d 0 >>= k) Q := by
  rw [held_sub_split (d : Thread nD τ) scRefs_sub (W d), held_scRefs W d, wp_bind]
  iintro ⟨#Hctx, Hst, ⟨Ha, Hu⟩, Hk⟩
  iapply ((K (F := F)).wp_run (D (F := F)) 𝒱 (EH := EH) (P := P (insOf W)) κ d 0) $$ [Hst Ha Hu Hk]
  isplitr; · iexact Hctx
  isplitl [Hst]; · iexact Hst
  isplitl [Ha]
  · rw [st0_eq]; iexact Ha
  iintro ⟨Hst, Hdn⟩
  ihave Hdn' := (Entails.of_eq (dn0_eq (insOf W) d)) $$ Hdn
  ihave Hu' := (Entails.of_eq (held_afterSc W d)) $$ [Hdn' Hu]
  · isplitl [Hdn'] <;> iassumption
  iapply Hk
  isplitl [Hst]; · iexact Hst
  iexact Hu'

/-- @main on device `d`'s TensorCore: from the launch's memory to every unscoped buffer at its final value. -/
theorem hmain (κ : GSem nD τ sig → ℕ) (d : Dev nD) :
    iprop((K (F := F)).ctx EH (P (theIns m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d : Thread nD τ) (Pipeline.ucRefs τ sig) (W₀ m d) from
    Pipeline.unscopedBufs_held d (W₀ m d), main_eq, wp_bind, tcSt_zero]
  iintro ⟨#Hctx, ⟨HO, Hrest⟩, ⟨Hb, Hu, Hts, -⟩, HG⟩
  ihave Hl := (SparseCore.Cfg.ctx_levAts κ) $$ Hctx
  iapply (wp_tc (W₀ m) κ (theIns m) d _) $$ [Hrest Hb Hu HO Hts HG Hl]
  isplitr [Hb Hu HO HG Hl]
  swap
  · isplitl [Hb]; · iexact Hb
    isplitl [Hu HO]
    · isplitl [Hu]; · iexact Hu
      iexact HO
    isplitl [Hl]; · iexact Hl
    iexact HG
  iintro ⟨Hb, Hu, HO⟩
  iapply (wp_seq 𝒱 none Set.univ d (Pipeline.ucRefs τ sig) _ opsA subA (List.forall_iff_forall_mem.mp frA) (afterTc (W₀ m) d)) $$ [Hb Hu]
  · isplitl [Hb] <;> iassumption
  rw [show after opsA (afterTc (W₀ m) d) = atSc (W₀ m) d from rfl]
  iintro ⟨Hb, Hu⟩
  iapply (wp_sc (atSc (W₀ m)) κ d _ _) $$ [Hrest HO Hu Hb Hts]
  isplitr; · iexact Hctx
  isplitl [HO Hrest]
  · iapply (Entails.of_eq (tcSt_zero d).symm)
    isplitl [HO] <;> iassumption
  isplitl [Hu]; · iexact Hu
  iintro ⟨Hst, Hu⟩
  iapply (wp_seq 𝒱 none Set.univ d (Pipeline.ucRefs τ sig) _ opsB subB (List.forall_iff_forall_mem.mp frB) (afterSc (atSc (W₀ m)) d)) $$ [Hb Hu]
  · isplitl [Hb] <;> iassumption
  iintro ⟨Hb, Hu⟩
  rw [wp_pure]; imodintro
  isplitl [Hst]; · iexact Hst
  isplitl [Hu]; · iexact Hu
  isplitl [Hb] <;> iassumption

/-! ## The whole program -/

/-- Every unscoped buffer of the TensorCore is at its final value. -/
def fq (d : Dev nD) (s' : Phys nD τ sig (Elt F)) : Prop :=
  ∀ b : Ref sig .tc, b.isScoped = false → s'.mem.mem ((d : Thread nD τ).loc b) = atEnd (W₀ m) d (dr b)

/-- A device that holds every unscoped buffer at its final value has it so in memory. -/
theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h _ (Finset.mem_filter.mpr ⟨devRef_mem_tcRefs b, by simpa using hb⟩)

/-- The program runs to the end from any memory whose four padded index lists name columns; every unscoped buffer of the
    TensorCore ends at its final value and every counter at zero. -/
theorem run_main [∀ e, Nonempty (Elt F e)] (hX : (theIns m).Ok) :
    θ_run (defs (F := F)) (threads (F := F)) ⟨m, fun _ => 0, ρ⟩ fun r =>
      (∀ (c : Dev nD) (b : Ref sig .tc), b.isScoped = false → r.2.mem ((c : Thread nD τ).loc b) = atEnd (W₀ m) c (dr b)) ∧ r.2.sem = fun _ => 0 :=
  SparseCore.Cfg.θ_run_sc_quiescent (K := K (F := F)) (D := D (F := F)) (𝒱 := 𝒱) (EH := EH) (P := P (theIns m)) (A := ∅) scFacts v₀
    (fun q hq => match q with | 0 => nomatch hq)
    (fun q _ => match q with | 0 => tileObl (theIns m) hX)
    (fun q _ => match q with | 0 => SparseCore.Cfg.VecSplit.of_plain (vecSplit (theIns m)))
    m ρ main G (FIN m) (u₀ (F := F)) (sep_elim_left.trans (hu₀ (theIns m))) (hmain m ρ) (fq m) (hfin m) _ (fun _ h hz => ⟨h, hz⟩)

end Cert.KernelIdeal.Sc

end
-- ==== Proof.Pad.lean ====
/-
  Index lists padded with zeros, and the program's precondition read at one word. The kernel lays its four lists of columns at the
  front of longer lists of zeros.
-/
module

public import proofs.«01_k».proof.Defs
public import proofs.«01_k».proof.Proof.Gen.Pre_in_range
public import Idealize.ShloMosaic.Lib.Routing.OpsOne
public import Idealize.ShloMosaic.Lib.Routing.OpsOrder
public import Idealize.ShloMosaic.Lib.ReduceAll

@[expose] public section

noncomputable section

namespace Cert.Proof.Pad

open Idealize.ShloMosaic Idealize.ShloMosaic.ValueIdx Idealize.ShloMosaic.Routing

/-- Update `k` of a list laid over a longer one from position 0 lands at position `k`. -/
theorem lands {N U : Nat} (d : ScatterDims (shape1 N) (shape1 1) (shape1 U)) (hiw : d.insertedWindowDims = []) (hsd : d.scatterDimsToOperandDims = [0])
    (idx : IVec (shape1 1) 32) (h0 : idx (ix1 0) = 0#32) (k : Fin U) (e : Fin N) : d.resultIdx? (ix1 k) idx = some (ix1 e) ↔ k.val = e.val := by
  have hm : (0 : Fin 1) ∈ d.scatterDimsToOperandDims := by rw [hsd]; exact List.mem_singleton.2 rfl
  have hwin : d.window (ix1 k) 0 = k.val := by
    have hk : d.sKept = [0] := by
      show (shape1 N).kept d.insertedWindowDims = _
      rw [hiw]; rfl
    unfold ScatterDims.window
    rw [dif_pos (by rw [hk]; simp)]
    exact congrArg (fun t => ((ix1 k : (shape1 U).Idx) t).val) (Subsingleton.elim (α := Fin 1) _ 0)
  have hstart : d.start (ix1 k) idx 0 = 0 := by
    unfold ScatterDims.start
    rw [dif_pos hm]
    have hsi : d.siIdx (ix1 k) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, h0]; rfl
  rw [resultIdx?_ix1, hstart, hwin]
  omega

/-- The padded list: the list at its own positions, the longer list's words after. -/
theorem pad_eq {α : Type} {N U : Nat} (d : ScatterDims (shape1 N) (shape1 1) (shape1 U)) (hiw : d.insertedWindowDims = []) (hsd : d.scatterDimsToOperandDims = [0])
    (x0 : (shape1 N).Idx → α) (idx : IVec (shape1 1) 32) (h0 : idx (ix1 0) = 0#32) (u : (shape1 U).Idx → α) (e : Fin N) :
    Host.scatter d (fun _ b => b) x0 idx u (ix1 e) = if h : e.val < U then u (ix1 ⟨e.val, h⟩) else x0 (ix1 e) := by
  have hl : ∀ k : (shape1 U).Idx, d.resultIdx? k idx = some (ix1 e) ↔ (k 0).val = e.val := fun k => by
    rw [show k = ix1 (k 0) from eq_ix1 k]; exact lands d hiw hsd idx h0 (k 0) e
  by_cases h : e.val < U
  · rw [dif_pos h]
    exact scatter_set_hit d x0 idx u _ _ (fun k hk => by rw [eq_ix1 k]; exact congrArg (fun t => u (ix1 t)) (Fin.ext ((hl k).1 hk))) (ix1 ⟨e.val, h⟩) ((hl _).2 rfl)
  · rw [dif_neg h]
    exact scatter_set_miss d x0 idx u _ fun k hk => h (by rw [← (hl k).1 hk]; exact (k 0).isLt)

/-- A word that is at least 0 and below 1500, read signed, is below 1500. -/
theorem word_lt (v : BitVec 32) (e : IntOp.andi (IntOp.cmpi .sge v 0#32) (IntOp.cmpi .slt v 1500#32) = 1#1) : v.toNat < 1500 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

section Pre

open Cert.Pre_in_range

variable {F : FTy → Type} [FloatOps F]

/-- The precondition gives, of every word of every list, that it is below 1500. -/
theorem cols_of_pre [Facts] (x t : FVec F S2048x1500 .f32) (a b : IVec S10000 32) (c d : IVec S4000 32)
    (h : fn (F := F) x t a b c d = fun _ => 1#1) :
    (∀ i, (a i).toNat < 1500) ∧ (∀ i, (b i).toNat < 1500) ∧ (∀ i, (c i).toNat < 1500) ∧ (∀ i, (d i).toNat < 1500) := by
  have : Subsingleton S_.Idx := ⟨fun p q => funext fun i => i.elim0⟩
  have and1 : ∀ p q : BitVec 1, IntOp.andi p q = 1#1 → p = 1#1 ∧ q = 1#1 := by decide
  have e := congrFun h (fun i => i.elim0)
  simp only [fn, fn_part1] at e
  obtain ⟨e, ed⟩ := and1 _ _ e
  obtain ⟨e, ec⟩ := and1 _ _ e
  obtain ⟨ea, eb⟩ := and1 _ _ e
  exact ⟨fun i => word_lt _ (Host.reduce_andi_all _ _ _ _ _ ea i), fun i => word_lt _ (Host.reduce_andi_all _ _ _ _ _ eb i),
    fun i => word_lt _ (Host.reduce_andi_all _ _ _ _ _ ec i), fun i => word_lt _ (Host.reduce_andi_all _ _ _ _ _ ed i)⟩

end Pre

end Cert.Proof.Pad

end
-- ==== Proof.Results.lean ====
/-
  What the run's final values are, read off the host operations: the SparseCore call's arrays, the four results and the arguments.
-/
module

public import proofs.«01_k».proof.Proof.Run
public import proofs.«01_k».proof.Proof.Pad

@[expose] public section

set_option maxRecDepth 16384

noncomputable section

namespace Cert.KernelIdeal.Sc

open Cert.KernelIdeal Cert.KernelIdeal.Gen
open Idealize.ShloMosaic
open Idealize.ShloMosaic.TcCoe
open Idealize.ShloMosaic.StableHlo

variable {F : FTy → Type} [FloatOps F]

/-! ## The host operations before the SparseCore call -/

section A

variable (V : Valuation τ sig (Elt F))

/-- A list of 10000 words at the head of 12288. -/
def padI (u : IVec S10000 32) : IVec S12288 32 :=
  Host.scatter scatter_S12288_S1_S10000_0_n_0_0 (fun _ b => b) (broadcastInDim S12288 ![] bcast_S_S12288 (constantI S_ 32 0#32))
    (broadcastInDim S1 ![] bcast_S_S1 (constantI S_ 32 0#32)) u

/-- A list of 4000 words at the head of 4096. -/
def padD (u : IVec S4000 32) : IVec S4096 32 :=
  Host.scatter scatter_S4096_S1_S4000_0_n_0_0 (fun _ b => b) (broadcastInDim S4096 ![] bcast_S_S4096 (constantI S_ 32 0#32))
    (broadcastInDim S1 ![] bcast_S_S1 (constantI S_ 32 0#32)) u

/-- Entry `e` of the padded list: the list's own below 10000, zero from there on. -/
theorem padI_at (u : IVec S10000 32) (e : Fin 12288) : padI u (ValueIdx.ix1 e) = if h : e.val < 10000 then u (ValueIdx.ix1 ⟨e.val, h⟩) else 0#32 :=
  Cert.Proof.Pad.pad_eq (N := 12288) (U := 10000) scatter_S12288_S1_S10000_0_n_0_0 rfl rfl _ _ rfl u e

/-- Entry `e` of the padded list: the list's own below 4000, zero from there on. -/
theorem padD_at (u : IVec S4000 32) (e : Fin 4096) : padD u (ValueIdx.ix1 e) = if h : e.val < 4000 then u (ValueIdx.ix1 ⟨e.val, h⟩) else 0#32 :=
  Cert.Proof.Pad.pad_eq (N := 4096) (U := 4000) scatter_S4096_S1_S4000_0_n_0_0 rfl rfl _ _ rfl u e

/-- The first host operations flatten the table of pair products. -/
theorem opsA_v1 : after opsA V (dr main_v1) = shapeCast S2250000 (V (dr main_v0_2)) shapeCasts_S1500x1500_S2250000 := by
  unfold opsA; after_results_simp <;> rfl
/-- The first host operations flatten the column sums. -/
theorem opsA_v2 : after opsA V (dr main_v2) = shapeCast S1500 (V (dr main_v0_1)) shapeCasts_S1x1500_S1500 := by
  unfold opsA; after_results_simp <;> rfl
/-- The first host operations pad the implications' left columns. -/
theorem opsA_v5 : after opsA V (dr main_v5) = padI (V (dr main_arg2)) := by
  unfold opsA; after_results_simp <;> rfl
/-- The first host operations pad the implications' right columns. -/
theorem opsA_v8 : after opsA V (dr main_v8) = padI (V (dr main_arg3)) := by
  unfold opsA; after_results_simp <;> rfl
/-- The first host operations pad the disjoint pairs' left columns. -/
theorem opsA_v11 : after opsA V (dr main_v11) = padD (V (dr main_arg4)) := by
  unfold opsA; after_results_simp <;> rfl
/-- The first host operations pad the disjoint pairs' right columns. -/
theorem opsA_v14 : after opsA V (dr main_v14) = padD (V (dr main_arg5)) := by
  unfold opsA; after_results_simp <;> rfl

end A

attribute [irreducible] padI padD

/-! ## The host operations after it -/

section B

variable (V : Valuation τ sig (Elt F))

/-- The mean loss from the summed one. -/
def meanLoss (l : FVec F S1x1 .f32) : FVec F S_ .f32 := Host.divf (shapeCast S_ l shapeCasts_S1x1_S_) (constant S_ .f32 0x4A3B8000#32)

/-- The tiles' rows added up. -/
def rowSums (o : FVec F S32x3x16 .f32) : FVec F S3 .f32 :=
  Host.reduceAdd o (constant S_ .f32 0x00000000#32) reducesTo_S32x3x16_S3_d0_2 h_S_

/-- The implication penalty from the tiles' rows: the first sum less the second, over the batch. -/
def implOf (o : FVec F S32x3x16 .f32) : FVec F S_ .f32 :=
  Host.divf (subf (shapeCast S_ (extractStridedSlice S1 ![0] (rowSums o) slices_S3_S1_0) shapeCasts_S1_S_)
    (shapeCast S_ (extractStridedSlice S1 ![1] (rowSums o) slices_S3_S1_1) shapeCasts_S1_S_)) (constant S_ .f32 0x45000000#32)

/-- The disjointness penalty: the third sum over the batch. -/
def disOf (o : FVec F S32x3x16 .f32) : FVec F S_ .f32 :=
  Host.divf (shapeCast S_ (extractStridedSlice S1 ![2] (rowSums o) slices_S3_S1_2) shapeCasts_S1_S_) (constant S_ .f32 0x45000000#32)

/-- The weighted total. -/
def totalOf (a b c : FVec F S_ .f32) : FVec F S_ .f32 :=
  addf (addf a (mulf (constant S_ .f32 0x3DCCCCCD#32) b)) (mulf (constant S_ .f32 0x42C80000#32) c)

/-- The last host operations compute the mean loss. -/
theorem opsB_v18 : after opsB V (dr main_v18) = meanLoss (V (dr main_v0_0)) := by
  unfold opsB; after_results_simp <;> rfl
/-- The last host operations compute the implication penalty. -/
theorem opsB_v24 : after opsB V (dr main_v24) = implOf (V (dr main_v15)) := by
  unfold opsB; after_results_simp <;> rfl
/-- The last host operations compute the disjointness penalty. -/
theorem opsB_v27 : after opsB V (dr main_v27) = disOf (V (dr main_v15)) := by
  unfold opsB; after_results_simp <;> rfl
/-- The last host operations compute the weighted total. -/
theorem opsB_v31 : after opsB V (dr main_v31) = totalOf (meanLoss (V (dr main_v0_0))) (implOf (V (dr main_v15))) (disOf (V (dr main_v15))) := by
  unfold opsB; after_results_simp <;> rfl

end B

/-! ## The run's values -/

variable (m : (ℓ : Loc nD τ sig) → Buf (Elt F) ℓ)

/-- A buffer of the launch memory. -/
abbrev mem0 (c : Dev nD) (b : Ref sig .tc) : Buf (Elt F) ((c : Thread nD τ).loc b) := m ((c : Thread nD τ).loc b)

/-- A buffer none of the calls and operations writes is at its launch contents. -/
theorem atEnd_kept (c : Dev nD) (b : Ref sig .tc) (hA : b ∉ wrA) (hB : b ∉ wrB) (h15 : b ≠ main_v15)
    (h0 : b ≠ main_v0_0) (h1 : b ≠ main_v0_1) (h2 : b ≠ main_v0_2) : atEnd (W₀ m) c (dr b) = mem0 m c b := by
  unfold atEnd
  rw [after_of_writes_sub opsB _ wrB_sub hB]
  unfold afterSc
  rw [Function.update_of_ne fun e => h15 (Proc.devRef_injective _ e)]
  unfold atSc
  rw [after_of_writes_sub opsA _ wrA_sub hA]
  exact afterTc_ne (W₀ m) c b h0 h1 h2

/-- The TensorCore call changes no buffer but its three results. -/
theorem afterTc_arg (c : Dev nD) (b : Ref sig .tc) (h0 : b ≠ main_v0_0) (h1 : b ≠ main_v0_1) (h2 : b ≠ main_v0_2) : afterTc (W₀ m) c (dr b) = mem0 m c b :=
  afterTc_ne (W₀ m) c b h0 h1 h2

/-- The table the SparseCore call reads, by its reference. -/
theorem insOf_h (W : Dev nD → Valuation τ sig (Elt F)) (d : Dev nD) : (insOf W).h d = W d (dr main_v1) := rfl
/-- The column sums the SparseCore call reads, by their reference. -/
theorem insOf_s (W : Dev nD → Valuation τ sig (Elt F)) (d : Dev nD) : (insOf W).s d = W d (dr main_v2) := rfl
/-- The implications' left columns the SparseCore call reads, by their reference. -/
theorem insOf_il (W : Dev nD → Valuation τ sig (Elt F)) (d : Dev nD) : (insOf W).il d = W d (dr main_v5) := rfl
/-- The implications' right columns the SparseCore call reads, by their reference. -/
theorem insOf_ir (W : Dev nD → Valuation τ sig (Elt F)) (d : Dev nD) : (insOf W).ir d = W d (dr main_v8) := rfl
/-- The disjoint pairs' left columns the SparseCore call reads, by their reference. -/
theorem insOf_dl (W : Dev nD → Valuation τ sig (Elt F)) (d : Dev nD) : (insOf W).dl d = W d (dr main_v11) := rfl
/-- The disjoint pairs' right columns the SparseCore call reads, by their reference. -/
theorem insOf_dr (W : Dev nD → Valuation τ sig (Elt F)) (d : Dev nD) : (insOf W).dr d = W d (dr main_v14) := rfl

/-- The SparseCore call finds the implications' left columns padded. -/
theorem ins_il (c : Dev nD) : (theIns m).il c = padI (mem0 m c main_arg2) := by
  refine (insOf_il _ _).trans ?_
  unfold atSc; rw [opsA_v5, afterTc_arg m c main_arg2 (by decide) (by decide) (by decide)]
/-- The SparseCore call finds the implications' right columns padded. -/
theorem ins_ir (c : Dev nD) : (theIns m).ir c = padI (mem0 m c main_arg3) := by
  refine (insOf_ir _ _).trans ?_
  unfold atSc; rw [opsA_v8, afterTc_arg m c main_arg3 (by decide) (by decide) (by decide)]
/-- The SparseCore call finds the disjoint pairs' left columns padded. -/
theorem ins_dl (c : Dev nD) : (theIns m).dl c = padD (mem0 m c main_arg4) := by
  refine (insOf_dl _ _).trans ?_
  unfold atSc; rw [opsA_v11, afterTc_arg m c main_arg4 (by decide) (by decide) (by decide)]
/-- The SparseCore call finds the disjoint pairs' right columns padded. -/
theorem ins_dr (c : Dev nD) : (theIns m).dr c = padD (mem0 m c main_arg5) := by
  refine (insOf_dr _ _).trans ?_
  unfold atSc; rw [opsA_v14, afterTc_arg m c main_arg5 (by decide) (by decide) (by decide)]

/-- The launch memory as the TensorCore call reads it. -/
abbrev V₀ : (c : Dev nD) → (b : Ref sig .tc) → Buf (Elt F) ((c : Thread nD τ).loc b) := refs (W₀ m)

/-- The SparseCore call finds the TensorCore's table of pair products, flat. -/
theorem ins_h (c : Dev nD) : (theIns m).h c = shapeCast S2250000 (Tc.prodArr (V₀ m) c) shapeCasts_S1500x1500_S2250000 := by
  show atSc (W₀ m) c (dr main_v1) = _
  unfold atSc; rw [opsA_v1]
  unfold afterTc; rw [Function.update_self]
/-- The SparseCore call finds the TensorCore's column sums, flat. -/
theorem ins_s (c : Dev nD) : (theIns m).s c = shapeCast S1500 (Tc.colArr (V₀ m) c) shapeCasts_S1x1500_S1500 := by
  show atSc (W₀ m) c (dr main_v2) = _
  unfold atSc; rw [opsA_v2]
  unfold afterTc; rw [Function.update_of_ne (by decide), Function.update_self]

/-- After the SparseCore call the summed loss is still the TensorCore's. -/
theorem afterSc_loss (c : Dev nD) : afterSc (atSc (W₀ m)) c (dr main_v0_0) = Tc.lossArr (V₀ m) c := by
  unfold afterSc
  rw [Function.update_of_ne (by decide)]
  unfold atSc
  rw [after_of_writes_sub opsA _ wrA_sub (by decide)]
  unfold afterTc
  rw [Function.update_of_ne (by decide), Function.update_of_ne (by decide), Function.update_self]

/-- After the SparseCore call the results' array holds what the tiles computed. -/
theorem afterSc_out (c : Dev nD) : afterSc (atSc (W₀ m)) c (dr main_v15) = (theIns m).out c := Function.update_self _ _ _

/-- The output of the SparseCore call. -/
abbrev scOut (c : Dev nD) : FVec F S32x3x16 .f32 := (theIns m).out c

/-- At the end the mean loss is that of the TensorCore's summed loss. -/
theorem end_v18 (c : Dev nD) : atEnd (W₀ m) c (dr main_v18) = meanLoss (Tc.lossArr (V₀ m) c) := by
  unfold atEnd; rw [opsB_v18, afterSc_loss]
/-- At the end the implication penalty is that of the tiles' results. -/
theorem end_v24 (c : Dev nD) : atEnd (W₀ m) c (dr main_v24) = implOf (scOut m c) := by
  unfold atEnd; rw [opsB_v24, afterSc_out]
/-- At the end the disjointness penalty is that of the tiles' results. -/
theorem end_v27 (c : Dev nD) : atEnd (W₀ m) c (dr main_v27) = disOf (scOut m c) := by
  unfold atEnd; rw [opsB_v27, afterSc_out]
/-- At the end the total is the weighted sum of the loss and the two penalties. -/
theorem end_v31 (c : Dev nD) : atEnd (W₀ m) c (dr main_v31) = totalOf (meanLoss (Tc.lossArr (V₀ m) c)) (implOf (scOut m c)) (disOf (scOut m c)) := by
  unfold atEnd; rw [opsB_v31, afterSc_loss, afterSc_out]

/-- Lists of columns give padded lists of columns. -/
theorem ins_ok (h : ∀ c, (∀ i : S10000.Idx, (mem0 m c main_arg2 i).toNat < 1500) ∧ (∀ i : S10000.Idx, (mem0 m c main_arg3 i).toNat < 1500)
    ∧ (∀ i : S4000.Idx, (mem0 m c main_arg4 i).toNat < 1500) ∧ (∀ i : S4000.Idx, (mem0 m c main_arg5 i).toNat < 1500)) : (theIns m).Ok := by
  have hI : ∀ u : IVec S10000 32, (∀ i, (u i).toNat < 1500) → ∀ x : S12288.Idx, (padI u x).toNat < 1500 := fun u hu x => by
    obtain ⟨e, rfl⟩ : ∃ e : Fin 12288, x = ValueIdx.ix1 e := ⟨x 0, ValueIdx.eq_ix1 x⟩
    rw [padI_at]; split
    · exact hu _
    · decide
  have hD : ∀ u : IVec S4000 32, (∀ i, (u i).toNat < 1500) → ∀ x : S4096.Idx, (padD u x).toNat < 1500 := fun u hu x => by
    obtain ⟨e, rfl⟩ : ∃ e : Fin 4096, x = ValueIdx.ix1 e := ⟨x 0, ValueIdx.eq_ix1 x⟩
    rw [padD_at]; split
    · exact hu _
    · decide
  exact ⟨fun d x => by rw [ins_il]; exact hI _ (h d).1 x, fun d x => by rw [ins_ir]; exact hI _ (h d).2.1 x,
    fun d x => by rw [ins_dl]; exact hD _ (h d).2.2.1 x, fun d x => by rw [ins_dr]; exact hD _ (h d).2.2.2 x⟩

end Cert.KernelIdeal.Sc

end
-- ==== Proof.Frame.lean ====
/-
  The program runs under the precondition, and the run's memory is known: the frame, and the four results' values.
-/
module

public import proofs.«01_k».proof.Proof.Results
public import proofs.«01_k».proof.Proof.Gen.Pre_in_range

@[expose] public section

set_option maxRecDepth 16384

noncomputable section

namespace Cert.KernelIdeal.Sc

open Cert.KernelIdeal Cert.KernelIdeal.Gen
open Idealize.ShloMosaic Idealize.SL.Sem
open Idealize.ShloMosaic.TcCoe
open Idealize.ShloMosaic.StableHlo

variable {F : FTy → Type} [FloatOps F] [∀ e, Nonempty (Elt F e)]

variable (m : (ℓ : Loc nD τ sig) → Buf (Elt F) ℓ) (ρ : Dev nD → PrngReg)

/-- Every device's arguments satisfy the precondition. -/
def Good : Prop := ∀ c : Dev nD,
  Cert.Pre_in_range.fn (F := F) (mem0 m c main_arg0) (mem0 m c main_arg1) (mem0 m c main_arg2) (mem0 m c main_arg3) (mem0 m c main_arg4)
    (mem0 m c main_arg5) = fun _ => 1#1

/-- Under the precondition every word of the four index arguments is less than 1500. -/
theorem Good.cols (h : Good m) (c : Dev nD) :
    (∀ i : S10000.Idx, (mem0 m c main_arg2 i).toNat < 1500) ∧ (∀ i : S10000.Idx, (mem0 m c main_arg3 i).toNat < 1500)
      ∧ (∀ i : S4000.Idx, (mem0 m c main_arg4 i).toNat < 1500) ∧ (∀ i : S4000.Idx, (mem0 m c main_arg5 i).toNat < 1500) :=
  Cert.Proof.Pad.cols_of_pre _ _ _ _ _ _ (h c)

/-- The arguments of a device are as launched. -/
def Kept (μ : (ℓ : Loc nD τ sig) → Buf (Elt F) ℓ) (c : Dev nD) : Prop :=
  μ ((c : Thread nD τ).loc main_arg0) = m ((c : Thread nD τ).loc main_arg0)
    ∧ μ ((c : Thread nD τ).loc main_arg1) = m ((c : Thread nD τ).loc main_arg1)
    ∧ μ ((c : Thread nD τ).loc main_arg2) = m ((c : Thread nD τ).loc main_arg2)
    ∧ μ ((c : Thread nD τ).loc main_arg3) = m ((c : Thread nD τ).loc main_arg3)
    ∧ μ ((c : Thread nD τ).loc main_arg4) = m ((c : Thread nD τ).loc main_arg4)
    ∧ μ ((c : Thread nD τ).loc main_arg5) = m ((c : Thread nD τ).loc main_arg5)

/-- The program runs: its four results have the stated values, the arguments are unchanged and every semaphore is zero again. -/
theorem run_values (h : Good m) :
    θ_run (defs (F := F)) (threads (F := F)) ⟨m, fun _ => 0, ρ⟩ fun r =>
      (∀ c : Dev nD, r.2.mem ((c : Thread nD τ).loc main_v31) = totalOf (meanLoss (Tc.lossArr (V₀ m) c)) (implOf (scOut m c)) (disOf (scOut m c))
        ∧ r.2.mem ((c : Thread nD τ).loc main_v18) = meanLoss (Tc.lossArr (V₀ m) c)
        ∧ r.2.mem ((c : Thread nD τ).loc main_v24) = implOf (scOut m c)
        ∧ r.2.mem ((c : Thread nD τ).loc main_v27) = disOf (scOut m c)
        ∧ Kept m r.2.mem c)
      ∧ r.2.sem = fun _ => 0 := by
  refine (θ_run _ _ _).mono (fun r hr => ⟨fun c => ⟨?_, ?_, ?_, ?_, ?_, ?_, ?_, ?_, ?_, ?_⟩, hr.2⟩) (run_main m ρ (ins_ok m h.cols))
  · exact (hr.1 c main_v31 (by decide)).trans (end_v31 m c)
  · exact (hr.1 c main_v18 (by decide)).trans (end_v18 m c)
  · exact (hr.1 c main_v24 (by decide)).trans (end_v24 m c)
  · exact (hr.1 c main_v27 (by decide)).trans (end_v27 m c)
  all_goals exact (hr.1 c _ (by decide)).trans (atEnd_kept m c _ (by decide) (by decide) (by decide) (by decide) (by decide) (by decide))

/-- The frame: the program runs, the arguments are unchanged and every semaphore is zero again. -/
theorem run_frame (h : Good m) :
    θ_run (defs (F := F)) (threads (F := F)) ⟨m, fun _ => 0, ρ⟩ fun r => (∀ c : Dev nD, Kept m r.2.mem c) ∧ r.2.sem = fun _ => 0 :=
  (θ_run _ _ _).mono (fun _ hr => ⟨fun c => (hr.1 c).2.2.2.2, hr.2⟩) (run_values m ρ h)

end Cert.KernelIdeal.Sc

end
-- ==== Proof.Spec.lean ====
/-
  The mathematics both programs are read as: probabilities, the cells of the first loss, and the sums over the two lists
  of pairs of columns.

  A probability is a real number whatever the input, so the sums of probabilities may be rearranged freely; the cells of
  the first loss are only ever added up, and sums of extended reals do not depend on their order.
-/
module

public import Idealize.ShloMosaic.Lib.Pointwise

@[expose] public section

set_option maxRecDepth 16384

noncomputable section

namespace Cert.Proof.Spec

open Idealize.ShloMosaic

/-- The indices of the input: 2048 rows of 1500 columns. -/
abbrev XIdx : Type := (⟨2, ![2048, 1500]⟩ : Shape).Idx

/-- The logistic function's value, as a real number. -/
def sig (x : EReal) : ℝ := (Ideal.logistic x).toReal

/-- The logistic function's value is a real number. -/
theorem coe_sig (x : EReal) : (sig x : EReal) = Ideal.logistic x := by
  unfold sig
  induction x using EReal.rec with
  | bot => rw [Ideal.logistic_bot]; simp
  | coe r => rw [Ideal.logistic_coe]; simp
  | top => rw [Ideal.logistic_top]; simp

/-- The probability in row `b`, column `c`. -/
def prob (x : XIdx → EReal) (b : Fin 2048) (c : Fin 1500) : ℝ := sig (x (ix2 b c))

/-- The column the `i`th word of a list names. -/
def pos {n : ℕ} (u : (⟨1, ![n]⟩ : Shape).Idx → BitVec 32) (i : Fin n) : Fin 1500 := ⟨(u (ix1 i)).toNat % 1500, Nat.mod_lt _ (by decide)⟩

/-- A cell of the first loss. -/
def cell (x t : EReal) : EReal := max x 0 - x * t + Ideal.log1p (Ideal.exp (-(max x (-x))))

/-- The first loss before it is averaged. -/
def lossSum (x t : XIdx → EReal) : EReal := ∑ b : Fin 2048, ∑ c : Fin 1500, cell (x (ix2 b c)) (t (ix2 b c))

/-- The loss of the first list of pairs, before it is averaged. -/
def implSum {n : ℕ} (x : XIdx → EReal) (l r : (⟨1, ![n]⟩ : Shape).Idx → BitVec 32) : ℝ :=
  ∑ b : Fin 2048, ∑ i : Fin n, prob x b (pos l i) * (1 - prob x b (pos r i))

/-- The loss of the second list of pairs, before it is averaged. -/
def disSum {n : ℕ} (x : XIdx → EReal) (l r : (⟨1, ![n]⟩ : Shape).Idx → BitVec 32) : ℝ :=
  ∑ b : Fin 2048, ∑ i : Fin n, prob x b (pos l i) * prob x b (pos r i)

/-- A column's probabilities added up. -/
def colS (x : XIdx → EReal) (c : Fin 1500) : ℝ := ∑ b : Fin 2048, prob x b c

/-- The products of two columns' probabilities added up. -/
def colP (x : XIdx → EReal) (c c' : Fin 1500) : ℝ := ∑ b : Fin 2048, prob x b c * prob x b c'

/-- The first list's loss is the left columns' sums less the sums of the products. -/
theorem implSum_eq {n : ℕ} (x : XIdx → EReal) (l r : (⟨1, ![n]⟩ : Shape).Idx → BitVec 32) :
    implSum x l r = ∑ i, colS x (pos l i) - ∑ i, colP x (pos l i) (pos r i) := by
  unfold implSum colS colP
  rw [Finset.sum_comm, ← Finset.sum_sub_distrib]
  refine Finset.sum_congr rfl fun i _ => ?_
  rw [← Finset.sum_sub_distrib]
  exact Finset.sum_congr rfl fun b _ => by ring

/-- The second list's loss is the sum of the products. -/
theorem disSum_eq {n : ℕ} (x : XIdx → EReal) (l r : (⟨1, ![n]⟩ : Shape).Idx → BitVec 32) :
    disSum x l r = ∑ i, colP x (pos l i) (pos r i) := by
  unfold disSum colP; exact Finset.sum_comm

/-- A sum of real numbers is the same sum taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Adding up `m` blocks of `n` is adding up all. -/
theorem sum_blocks {M : Type} [AddCommMonoid M] {N m n : ℕ} (hN : N = m * n) (f : Fin N → M)
    (hlt : ∀ (t : Fin m) (i : Fin n), n * t.val + i.val < N) :
    ∑ t : Fin m, ∑ i : Fin n, f ⟨n * t.val + i.val, hlt t i⟩ = ∑ b : Fin N, f b := by
  subst hN
  rw [← finProdFinEquiv.sum_comp f, Fintype.sum_prod_type]
  refine Finset.sum_congr rfl fun t _ => Finset.sum_congr rfl fun i _ => congrArg f (Fin.ext ?_)
  show n * t.val + i.val = i.val + n * t.val
  exact Nat.add_comm _ _

end Cert.Proof.Spec
-- ==== Proof.KerValue.lean ====
/-
  What the TensorCore call leaves: the first loss's cells added up, every column's probabilities added up, and every two
  columns' products of probabilities added up — each point of the grid adding its block of 256 rows.
-/
module

public import proofs.«01_k».proof.Proof.Spec
public import proofs.«01_k».proof.Proof.TcRegion
public import Idealize.ShloMosaic.Lib.Pipeline.Value

@[expose] public section

set_option maxRecDepth 16384

noncomputable section

namespace Cert.KernelIdeal.Tc

open Cert.KernelIdeal Cert.KernelIdeal.Gen
open Idealize.ShloMosaic Idealize.ShloMosaic.TcCoe
open Cert.Proof.Spec

/-- The word zero reads as zero. -/
theorem ofBits_zero : Ideal.ofBits .f32 0x00000000#32 = 0 := by simp [Ideal.ofBits, Ideal.ieee]

/-! ## What one point adds -/

/-- The running loss takes the cells of the point's block. -/
theorem pay4_eq (x t : FVec Ideal S256x1500 .f32) (v : EReal) :
    k0_pay4 (F := Ideal) x t v = v + ∑ i : Fin 256, ∑ c : Fin 1500, cell (x (ix2 i c)) (t (ix2 i c)) := by
  unfold k0_pay4
  refine congrArg (v + ·) ?_
  pointwise [cell]
  refine Finset.sum_congr rfl fun i _ => Finset.sum_congr rfl fun c _ =>
    congrArg (max (x (ix2 i c)) 0 - x (ix2 i c) * t (ix2 i c) + ·) (congrArg Ideal.log1p (congrArg Ideal.exp (zero_sub _)))

/-- A column's running sum takes the column's probabilities in the point's block. -/
theorem pay5_at (x : FVec Ideal S256x1500 .f32) (a : FVec Ideal S1x1500 .f32) (c : Fin 1500) :
    k0_pay5 (F := Ideal) x a (ix2 0 c) = a (ix2 0 c) + ∑ i : Fin 256, Ideal.logistic (x (ix2 i c)) := by
  pointwise [k0_pay5, k0_pay1]

/-- Two columns' running sum takes the products of the columns' probabilities in the point's block. -/
theorem pay6_at (x : FVec Ideal S256x1500 .f32) (a : FVec Ideal S1500x1500 .f32) (c c' : Fin 1500) :
    k0_pay6 (F := Ideal) x a (ix2 c c') = a (ix2 c c') + ∑ i : Fin 256, Ideal.logistic (x (ix2 i c)) * Ideal.logistic (x (ix2 i c')) := by
  pointwise [k0_pay6, k0_pay1]

/-! ## The points together -/

/-- Something that starts at its first step's addition and takes one addition a step is the sum of the additions. -/
theorem steps_sum {N : ℕ} (S : (n : ℕ) → n < N → EReal) (f : Fin N → EReal) (h0 : ∀ h, S 0 h = f ⟨0, h⟩)
    (hs : ∀ n h, S (n + 1) h = S n (Nat.lt_of_succ_lt h) + f ⟨n + 1, h⟩) :
    ∀ n (h : n < N), S n h = ∑ t : Fin (n + 1), f ⟨t.val, Nat.lt_of_lt_of_le t.isLt h⟩
  | 0, h => by rw [h0, Fin.sum_univ_one]; rfl
  | n + 1, h => by rw [hs, steps_sum S f h0 hs n, Fin.sum_univ_castSucc (n := n + 1)]; rfl

variable (V : (c : Dev nD) → (b : Ref sig .tc) → Buf (Elt Ideal) ((c : Thread nD τ).loc b))

/-- A row of a point's block is a row of the whole. -/
theorem row_lt (t : Fin grid0.N) (i : Fin 256) : 256 * t.val + i.val < 2048 := by
  have h := t.isLt; have hN : grid0.N = 8 := N_0; omega

/-- Point `t` stages block `t` of the input's rows. -/
theorem index_x : ∀ t : Fin grid0.N, win0_0.index t 0 = t.val ∧ win0_0.index t 1 = 0 := by decide +kernel
/-- Point `t` stages block `t` of the targets' rows. -/
theorem index_t : ∀ t : Fin grid0.N, win0_1.index t 0 = t.val ∧ win0_1.index t 1 = 0 := by decide +kernel

/-- A point's block of the input is its 256 rows. -/
theorem xBlk_at (c : Dev nD) (t : Fin grid0.N) (i : Fin 256) (k : Fin 1500) :
    xBlk V c t (ix2 i k) = V c main_arg0 (ix2 ⟨256 * t.val + i.val, row_lt t i⟩ k) := by
  refine (View.read_apply _ _).trans (congrArg (V c main_arg0) (funext fun a => Fin.ext ?_))
  match a with
  | ⟨0, _⟩ => show win0_0.index t 0 * 256 + 1 * i.val = 256 * t.val + i.val
              rw [(index_x t).1]; omega
  | ⟨1, _⟩ => show win0_0.index t 1 * 1500 + 1 * k.val = k.val
              rw [(index_x t).2]; omega

/-- A point's block of the targets is its 256 rows. -/
theorem tBlk_at (c : Dev nD) (t : Fin grid0.N) (i : Fin 256) (k : Fin 1500) :
    tBlk V c t (ix2 i k) = V c main_arg1 (ix2 ⟨256 * t.val + i.val, row_lt t i⟩ k) := by
  refine (View.read_apply _ _).trans (congrArg (V c main_arg1) (funext fun a => Fin.ext ?_))
  match a with
  | ⟨0, _⟩ => show win0_1.index t 0 * 256 + 1 * i.val = 256 * t.val + i.val
              rw [(index_t t).1]; omega
  | ⟨1, _⟩ => show win0_1.index t 1 * 1500 + 1 * k.val = k.val
              rw [(index_t t).2]; omega

/-- The loss the call leaves is the sum of all cells. -/
theorem lossArr_eq (c : Dev nD) : lossArr V c = fun _ => lossSum (V c main_arg0) (V c main_arg1) := by
  funext j
  refine (steps_sum (lossTo (xBlk V c) (tBlk V c)) (fun t => ∑ i : Fin 256, ∑ k : Fin 1500, cell (xBlk V c t (ix2 i k)) (tBlk V c t (ix2 i k)))
    (fun h => (pay4_eq _ _ _).trans ?_) (fun n h => pay4_eq _ _ _) 7 last_lt).trans ?_
  · show Ideal.ofBits .f32 0x00000000#32 + _ = _
    rw [ofBits_zero, zero_add]
  · unfold lossSum
    refine Eq.trans ?_ (sum_blocks (m := 8) (n := 256) rfl (fun b => ∑ k : Fin 1500, cell (V c main_arg0 (ix2 b k)) (V c main_arg1 (ix2 b k))) (fun t i => by omega))
    refine Finset.sum_congr rfl fun t _ => Finset.sum_congr rfl fun i _ => Finset.sum_congr rfl fun k _ => ?_
    rw [xBlk_at, tBlk_at]

/-- A column's sum, as the call leaves it. -/
theorem colArr_at (c : Dev nD) (k : Fin 1500) : colArr V c (ix2 0 k) = ((colS (V c main_arg0) k : ℝ) : EReal) := by
  refine (steps_sum (fun n h => colTo (xBlk V c) n h (ix2 0 k)) (fun t => ∑ i : Fin 256, Ideal.logistic (xBlk V c t (ix2 i k)))
    (fun h => (pay5_at _ _ _).trans ?_) (fun n h => pay5_at _ _ _) 7 last_lt).trans ?_
  · show Ideal.ofBits .f32 0x00000000#32 + _ = _
    rw [ofBits_zero, zero_add]
  · unfold colS
    rw [coe_sum]
    refine Eq.trans ?_ (sum_blocks (m := 8) (n := 256) rfl (fun b => ((prob (V c main_arg0) b k : ℝ) : EReal)) (fun t i => by omega))
    refine Finset.sum_congr rfl fun t _ => Finset.sum_congr rfl fun i _ => ?_
    rw [xBlk_at]
    exact (coe_sig _).symm

/-- Two columns' sum of products, as the call leaves it. -/
theorem prodArr_at (c : Dev nD) (k k' : Fin 1500) : prodArr V c (ix2 k k') = ((colP (V c main_arg0) k k' : ℝ) : EReal) := by
  refine (steps_sum (fun n h => prodTo (xBlk V c) n h (ix2 k k')) (fun t => ∑ i : Fin 256, Ideal.logistic (xBlk V c t (ix2 i k)) * Ideal.logistic (xBlk V c t (ix2 i k')))
    (fun h => (pay6_at _ _ _ _).trans ?_) (fun n h => pay6_at _ _ _ _) 7 last_lt).trans ?_
  · show Ideal.ofBits .f32 0x00000000#32 + _ = _
    rw [ofBits_zero, zero_add]
  · unfold colP
    rw [coe_sum]
    refine Eq.trans ?_ (sum_blocks (m := 8) (n := 256) rfl (fun b => ((prob (V c main_arg0) b k * prob (V c main_arg0) b k' : ℝ) : EReal)) (fun t i => by omega))
    refine Finset.sum_congr rfl fun t _ => Finset.sum_congr rfl fun i _ => ?_
    rw [xBlk_at, xBlk_at, EReal.coe_mul]
    exact congrArg₂ (· * ·) (coe_sig _).symm (coe_sig _).symm

end Cert.KernelIdeal.Tc
-- ==== Proof.ScValue.lean ====
/-
  What the tiles' sums add up to: every position of a list of pairs belongs to one lane of one chunk of one tile, so all
  tiles' lanes of a row together are one sum over the list, the positions past its end adding zero.
-/
module

public import proofs.«01_k».proof.Proof.Spec
public import proofs.«01_k».proof.Proof.Sums

@[expose] public section

set_option maxRecDepth 16384

noncomputable section

namespace Cert.KernelIdeal.Sc

open Cert.KernelIdeal Cert.KernelIdeal.Gen
open Idealize.ShloMosaic
open Cert.Proof.Spec

/-! ## One tile's lanes -/

/-- A comparison of small positions as words is the comparison of the positions. -/
theorem slt_small {p q : ℕ} (hp : p < 2 ^ 31) (hq : q < 2 ^ 31) : IntOp.cmpi .slt (BitVec.ofNat 32 p) (BitVec.ofNat 32 q) = 1#1 ↔ p < q := by
  have ep : (BitVec.ofNat 32 p).toInt = (p : ℤ) := by rw [BitVec.toInt_eq_toNat_cond, BitVec.toNat_ofNat]; split <;> omega
  have eq : (BitVec.ofNat 32 q).toInt = (q : ℤ) := by rw [BitVec.toInt_eq_toNat_cond, BitVec.toNat_ofNat]; split <;> omega
  show BitVec.ofBool (decide ((BitVec.ofNat 32 p).toInt < (BitVec.ofNat 32 q).toInt)) = 1#1 ↔ _
  rw [ep, eq]
  by_cases h : p < q
  · rw [decide_eq_true (by omega)]; exact ⟨fun _ => h, fun _ => rfl⟩
  · rw [decide_eq_false (by omega)]; exact ⟨fun e => absurd e (by decide), fun e => absurd e h⟩

/-- One chunk adds, in a lane, the value there if its position lies under the bound. -/
theorem chunkStep_at (b B k : ℕ) (v : S16.Idx → EReal) (j : Fin 16) (hb : b + 16 * k + 16 < 2 ^ 31) (hB : B < 2 ^ 31) :
    chunkStep (F := Ideal) (BitVec.ofNat 32 b) (BitVec.ofNat 32 B) k v (ix1 j) = if b + (16 * k + j.val) < B then v (ix1 j) else 0 := by
  have hj := j.isLt
  have e : IntOp.addi (IntOp.addi (BitVec.ofNat 32 b) (BitVec.ofNat 32 (16 * k))) (iota .scVector S16 32 [0] iota_S16_d0_w32_scVector (ix1 j))
      = BitVec.ofNat 32 (b + (16 * k + j.val)) := by
    have ei : iota .scVector S16 32 [0] iota_S16_d0_w32_scVector (ix1 j) = BitVec.ofNat 32 j.val := by
      refine congrArg (BitVec.ofNat 32) ?_
      show 0 + j.val = j.val
      omega
    rw [ei]
    show BitVec.ofNat 32 b + BitVec.ofNat 32 (16 * k) + BitVec.ofNat 32 j.val = _
    rw [← BitVec.ofNat_add, ← BitVec.ofNat_add, Nat.add_assoc]
  show (if IntOp.cmpi .slt (IntOp.addi (IntOp.addi (BitVec.ofNat 32 b) (BitVec.ofNat 32 (16 * k))) (iota .scVector S16 32 [0] iota_S16_d0_w32_scVector (ix1 j))) (BitVec.ofNat 32 B) = 1#1
    then v (ix1 j) else Ideal.ofBits .f32 0x00000000#32) = _
  rw [e, show Ideal.ofBits .f32 0x00000000#32 = 0 by simp [Ideal.ofBits, Ideal.ieee]]
  exact if_congr (slt_small (by omega) hB) rfl rfl

/-- The chunks' running sum in a lane. -/
theorem chunkSum_at (b B : ℕ) (v : ℕ → S16.Idx → EReal) (j : Fin 16) (hB : B < 2 ^ 31) :
    ∀ n, b + 16 * n + 16 < 2 ^ 31 → chunkSum (F := Ideal) (BitVec.ofNat 32 b) (BitVec.ofNat 32 B) v n (ix1 j)
      = ∑ k : Fin n, if b + (16 * k.val + j.val) < B then v k.val (ix1 j) else 0
  | 0, _ => by
    show Ideal.ofBits .f32 0x00000000#32 = _
    rw [Fin.sum_univ_zero]; simp [Ideal.ofBits, Ideal.ieee]
  | n + 1, h => by
    rw [Fin.sum_univ_castSucc]
    exact congrArg₂ (· + ·) (chunkSum_at b B v j hB n (by omega)) (chunkStep_at b B n (v n) j (by omega) hB)

/-! ## All tiles' lanes -/

/-- A sum over the positions of a longer list that counts those under a bound alone is the sum over those. -/
theorem sum_under {M : Type} [AddCommMonoid M] {N B : ℕ} (hBN : B ≤ N) (G : Fin B → M) :
    ∑ e : Fin N, (if h : e.val < B then G ⟨e.val, h⟩ else 0) = ∑ i : Fin B, G i := by
  obtain ⟨r, rfl⟩ := Nat.exists_eq_add_of_le hBN
  rw [Fin.sum_univ_add]
  have h0 : ∑ i : Fin r, (if h : (Fin.natAdd B i).val < B then G ⟨(Fin.natAdd B i).val, h⟩ else 0) = 0 :=
    Finset.sum_eq_zero fun i _ => dif_neg (by show ¬ (B + i.val < B); omega)
  rw [h0, add_zero]
  exact Finset.sum_congr rfl fun i _ => dif_pos i.isLt

/-- All lanes of all tiles, added up: the sum over the list's positions under the bound. -/
theorem tiles_sum {m K B : ℕ} (hm : m = 16 * K) (hm0 : 0 < m) (hB : B ≤ 32 * m) (hs : 32 * m < 2 ^ 30)
    (g : Fin 32 → (⟨1, ![m]⟩ : Shape).Idx → EReal) (G : Fin B → EReal)
    (hg : ∀ (w : Fin 32) (e : Fin m) (h : m * w.val + e.val < B), g w (ix1 e) = G ⟨m * w.val + e.val, h⟩) :
    ∑ w : Fin 32, ∑ j : Fin 16, chunkSum (F := Ideal) (BitVec.ofNat 32 (m * w.val)) (BitVec.ofNat 32 B) (chunkOf hm0 (g w)) K (ix1 j) = ∑ i : Fin B, G i := by
  have at_lt (w : Fin 32) (e : Fin m) : m * w.val + e.val < 32 * m := by
    have h1 := w.isLt; have h2 := e.isLt
    have : m * w.val ≤ m * 31 := Nat.mul_le_mul_left _ (by omega)
    omega
  rw [← sum_under hB G, ← sum_blocks (m := 32) (n := m) rfl (fun e : Fin (32 * m) => if h : e.val < B then G ⟨e.val, h⟩ else 0) at_lt]
  refine Finset.sum_congr rfl fun w _ => ?_
  have hw := at_lt w ⟨0, hm0⟩
  have lane_lt (k : Fin K) (j : Fin 16) : 16 * k.val + j.val < m := by have := k.isLt; have := j.isLt; omega
  rw [← sum_blocks (m := K) (n := 16) (by omega) (fun e : Fin m => if h : m * w.val + e.val < B then G ⟨m * w.val + e.val, h⟩ else 0) lane_lt, Finset.sum_comm]
  refine Finset.sum_congr rfl fun j _ => ?_
  have hb : m * w.val < 32 * m := by simpa using hw
  rw [chunkSum_at _ _ _ _ (by omega) K (by omega)]
  refine Finset.sum_congr rfl fun k _ => ?_
  have hk := lane_lt k j
  by_cases h : m * w.val + (16 * k.val + j.val) < B
  · rw [if_pos h, dif_pos h, ← hg w ⟨16 * k.val + j.val, hk⟩ h]
    exact congrArg (g w) (congrArg ix1 (Fin.ext (Nat.mod_eq_of_lt hk)))
  · rw [if_neg h, dif_neg h]

/-! ## The three rows -/

variable {fH : S2250000.Idx → EReal} {fS : S1500.Idx → EReal} {fil fir : S12288.Idx → BitVec 32} {fdl fdr : S4096.Idx → BitVec 32}
variable {P : Fin 1500 → Fin 1500 → EReal} {S : Fin 1500 → EReal}
variable {l r : S10000.Idx → BitVec 32} {l' r' : S4000.Idx → BitVec 32}

/-- The table of pairs at a pair's flat position. -/
theorem pickH_flat (hH : ∀ (a b : Fin 1500) (h : a.val * 1500 + b.val < 2250000), fH (ix1 ⟨a.val * 1500 + b.val, h⟩) = P a b)
    {a b : BitVec 32} (ha : a.toNat < 1500) (hb : b.toNat < 1500) : pickH (F := Ideal) fH (flat a b) = P ⟨a.toNat % 1500, Nat.mod_lt _ (by decide)⟩ ⟨b.toNat % 1500, Nat.mod_lt _ (by decide)⟩ := by
  have ea := Nat.mod_eq_of_lt ha
  have eb := Nat.mod_eq_of_lt hb
  rw [← hH _ _ (by show a.toNat % 1500 * 1500 + b.toNat % 1500 < 2250000; omega)]
  refine congrArg fH (congrArg ix1 (Fin.ext ?_))
  show (flat a b).toNat % 2250000 = a.toNat % 1500 * 1500 + b.toNat % 1500
  rw [flat_toNat ha hb, ea, eb, Nat.mod_eq_of_lt (by omega)]

/-- All tiles' first rows: the left ends' column sums. -/
theorem row0_sum (hS : ∀ a : Fin 1500, fS (ix1 a) = S a)
    (hl : ∀ (e : ℕ) (h : e < 10000) (h' : e < 12288), fil (ix1 ⟨e, h'⟩) = l (ix1 ⟨e, h⟩)) :
    ∑ w : Fin 32, ∑ j : Fin 16, outOf (F := Ideal) fH fS fil fir fdl fdr (ix3 w 0 j) = ∑ i : Fin 10000, S (pos l i) := by
  refine tiles_sum (m := 384) (K := 24) (B := 10000) rfl (by decide) (by decide) (by decide)
    (fun w i => pickS (F := Ideal) fS (rowWords (tileWords w.val w.isLt fil) (at3x128 i))) (fun i => S (pos l i)) fun w e h => ?_
  have ew : rowWords (tileWords w.val w.isLt fil) (at3x128 (ix1 e)) = l (ix1 ⟨384 * w.val + e.val, h⟩) := by
    unfold rowWords; rw [at384_at3x128]; exact hl _ h _
  show pickS (F := Ideal) fS (rowWords (tileWords w.val w.isLt fil) (at3x128 (ix1 e))) = _
  rw [ew]
  exact hS _

/-- All tiles' second rows: the first list's pairs' sums. -/
theorem row1_sum (hH : ∀ (a b : Fin 1500) (h : a.val * 1500 + b.val < 2250000), fH (ix1 ⟨a.val * 1500 + b.val, h⟩) = P a b)
    (hl : ∀ (e : ℕ) (h : e < 10000) (h' : e < 12288), fil (ix1 ⟨e, h'⟩) = l (ix1 ⟨e, h⟩))
    (hr : ∀ (e : ℕ) (h : e < 10000) (h' : e < 12288), fir (ix1 ⟨e, h'⟩) = r (ix1 ⟨e, h⟩))
    (bl : ∀ i, (l i).toNat < 1500) (br : ∀ i, (r i).toNat < 1500) :
    ∑ w : Fin 32, ∑ j : Fin 16, outOf (F := Ideal) fH fS fil fir fdl fdr (ix3 w 1 j) = ∑ i : Fin 10000, P (pos l i) (pos r i) := by
  refine tiles_sum (m := 384) (K := 24) (B := 10000) rfl (by decide) (by decide) (by decide)
    (fun w i => pickH (F := Ideal) fH (flatWords (tileWords w.val w.isLt fil) (tileWords w.val w.isLt fir) (at3x128 i))) (fun i => P (pos l i) (pos r i)) fun w e h => ?_
  have ew : flatWords (tileWords w.val w.isLt fil) (tileWords w.val w.isLt fir) (at3x128 (ix1 e))
      = flat (l (ix1 ⟨384 * w.val + e.val, h⟩)) (r (ix1 ⟨384 * w.val + e.val, h⟩)) := by
    unfold flatWords; rw [at384_at3x128]; exact congrArg₂ flat (hl _ h _) (hr _ h _)
  show pickH (F := Ideal) fH (flatWords (tileWords w.val w.isLt fil) (tileWords w.val w.isLt fir) (at3x128 (ix1 e))) = _
  rw [ew]
  exact pickH_flat hH (bl _) (br _)

/-- All tiles' third rows: the second list's pairs' sums. -/
theorem row2_sum (hH : ∀ (a b : Fin 1500) (h : a.val * 1500 + b.val < 2250000), fH (ix1 ⟨a.val * 1500 + b.val, h⟩) = P a b)
    (hl : ∀ (e : ℕ) (h : e < 4000) (h' : e < 4096), fdl (ix1 ⟨e, h'⟩) = l' (ix1 ⟨e, h⟩))
    (hr : ∀ (e : ℕ) (h : e < 4000) (h' : e < 4096), fdr (ix1 ⟨e, h'⟩) = r' (ix1 ⟨e, h⟩))
    (bl : ∀ i, (l' i).toNat < 1500) (br : ∀ i, (r' i).toNat < 1500) :
    ∑ w : Fin 32, ∑ j : Fin 16, outOf (F := Ideal) fH fS fil fir fdl fdr (ix3 w 2 j) = ∑ i : Fin 4000, P (pos l' i) (pos r' i) := by
  refine tiles_sum (m := 128) (K := 8) (B := 4000) rfl (by decide) (by decide) (by decide)
    (fun w i => pickH (F := Ideal) fH (flatWordsD (tileWordsD w.val w.isLt fdl) (tileWordsD w.val w.isLt fdr) i)) (fun i => P (pos l' i) (pos r' i)) fun w e h => ?_
  have ew : flatWordsD (tileWordsD w.val w.isLt fdl) (tileWordsD w.val w.isLt fdr) (ix1 e)
      = flat (l' (ix1 ⟨128 * w.val + e.val, h⟩)) (r' (ix1 ⟨128 * w.val + e.val, h⟩)) :=
    congrArg₂ flat (hl _ h _) (hr _ h _)
  show pickH (F := Ideal) fH (flatWordsD (tileWordsD w.val w.isLt fdl) (tileWordsD w.val w.isLt fdr) (ix1 e)) = _
  rw [ew]
  exact pickH_flat hH (bl _) (br _)

end Cert.KernelIdeal.Sc
-- ==== Proof.Value.lean ====
/-
  What the kernel leaves when the lists' words are column numbers: the same sums of cells and of products of
  probabilities as the reference.
-/
module

public import proofs.«01_k».proof.Proof.KerValue
public import proofs.«01_k».proof.Proof.ScValue
public import proofs.«01_k».proof.Proof.Frame
public import Idealize.ShloMosaic.Lib.Pointwise.IndexBridge

@[expose] public section

set_option maxRecDepth 16384

noncomputable section

namespace Cert.KernelIdeal.Sc

open Cert.KernelIdeal Cert.KernelIdeal.Gen
open Idealize.ShloMosaic Idealize.ShloMosaic.TcCoe
open Cert.Proof.Spec

/-! ## The host's sums of the tiles' results -/

/-- The indices of the tiles' results in row `r` are those of a tile and a lane. -/
theorem row_fiber (r : Fin 3) (i : S32x3x16.Idx) :
    reducesTo_S32x3x16_S3_d0_2.drop i = ix1 r ↔ ∃ k : Fin 32 × Fin 16, ix3 k.1 r k.2 = i := by
  have e : (reducesTo_S32x3x16_S3_d0_2.drop i 0 : ℕ) = i 1 := Shape.ReducesTo.drop_apply_val _ i 0
  constructor
  · intro h
    refine ⟨(i 0, i 2), funext fun a => ?_⟩
    match a with
    | ⟨0, _⟩ => rfl
    | ⟨1, _⟩ => exact Fin.ext ((congrArg (fun y : S3.Idx => (y 0).val) h).symm.trans e)
    | ⟨2, _⟩ => rfl
  · rintro ⟨k, rfl⟩
    refine funext fun b => Fin.ext ?_
    obtain rfl : b = 0 := Subsingleton.elim _ _
    exact e

/-- Row `r`'s sum over all tiles and lanes. -/
theorem rowSums_at (o : FVec Ideal S32x3x16 .f32) (r : Fin 3) : rowSums o (ix1 r) = ∑ w : Fin 32, ∑ j : Fin 16, o (ix3 w r j) := by
  show Ideal.ofBits .f32 0x00000000#32 + ∑ i ∈ Finset.univ.filter (fun i => reducesTo_S32x3x16_S3_d0_2.drop i = ix1 r), o i = _
  rw [Tc.ofBits_zero, zero_add, Finset.sum_filter_eq_sum_of_fiber _ (fun k : Fin 32 × Fin 16 => ix3 k.1 r k.2)
    (fun _ _ e => Prod.ext (congrFun e 0) (congrFun e 2)) (row_fiber r), Fintype.sum_prod_type]

/-- The first list's loss: the first row's sum less the second's, over the number of rows. -/
theorem implOf_eq (o : FVec Ideal S32x3x16 .f32) :
    implOf o = fun _ => Ideal.div (rowSums o (ix1 0) - rowSums o (ix1 1)) (Ideal.ofBits .f32 0x45000000#32) := by
  funext j
  pointwise [implOf]

/-- The second list's loss: the third row's sum, over the number of rows. -/
theorem disOf_eq (o : FVec Ideal S32x3x16 .f32) : disOf o = fun _ => Ideal.div (rowSums o (ix1 2)) (Ideal.ofBits .f32 0x45000000#32) := by
  funext j
  pointwise [disOf]

/-! ## The arrays the tiles read -/

/-- The padded first list holds the list's own words at the positions under 10000. -/
theorem padI_word (u : IVec S10000 32) (e : ℕ) (h : e < 10000) (h' : e < 12288) : padI u (ix1 ⟨e, h'⟩) = u (ix1 ⟨e, h⟩) := by
  rw [ix1_eq_valueIdx, ix1_eq_valueIdx, padI_at]; exact dif_pos h

/-- The padded second list holds the list's own words at the positions under 4000. -/
theorem padD_word (u : IVec S4000 32) (e : ℕ) (h : e < 4000) (h' : e < 4096) : padD u (ix1 ⟨e, h'⟩) = u (ix1 ⟨e, h⟩) := by
  rw [ix1_eq_valueIdx, ix1_eq_valueIdx, padD_at]; exact dif_pos h

variable (m : (ℓ : Loc nD τ sig) → Buf (Elt Ideal) ℓ)

/-- The flat table of pairs holds the products' sums, a row of 1500 after another. -/
theorem h_at (c : Dev nD) (a b : Fin 1500) (h : a.val * 1500 + b.val < 2250000) :
    (theIns m).h c (ix1 ⟨a.val * 1500 + b.val, h⟩) = ((colP (mem0 m c main_arg0) a b : ℝ) : EReal) := by
  rw [ins_h]
  refine (shapeCast_apply _ shapeCasts_S1500x1500_S2250000 (ix1 ⟨a.val * 1500 + b.val, h⟩) (ix2 a b) ?_).trans (Tc.prodArr_at (V₀ m) c a b)
  rw [Shape.rowMajor_val_two, Shape.rowMajor_val_one]
  rfl

/-- The flat table of columns holds the columns' sums. -/
theorem s_at (c : Dev nD) (a : Fin 1500) : (theIns m).s c (ix1 a) = ((colS (mem0 m c main_arg0) a : ℝ) : EReal) := by
  rw [ins_s]
  refine (shapeCast_apply _ shapeCasts_S1x1500_S1500 (ix1 a) (ix2 0 a) ?_).trans (Tc.colArr_at (V₀ m) c a)
  rw [Shape.rowMajor_val_two, Shape.rowMajor_val_one]
  show 0 * 1500 + a.val = a.val
  omega

/-! ## The kernel's losses -/

/-- The kernel's first loss: the cells added up, over their number. -/
theorem loss_value (c : Dev nD) :
    meanLoss (Tc.lossArr (V₀ m) c) = fun _ => Ideal.div (lossSum (mem0 m c main_arg0) (mem0 m c main_arg1)) (Ideal.ofBits .f32 0x4A3B8000#32) := by
  rw [Tc.lossArr_eq]; rfl

variable (h : Good m)
include h

/-- The kernel's loss of the first list: `implSum` over the number of rows. -/
theorem impl_value (c : Dev nD) :
    implOf (scOut m c) = fun _ => Ideal.div ((implSum (mem0 m c main_arg0) (mem0 m c main_arg2) (mem0 m c main_arg3) : ℝ) : EReal) (Ideal.ofBits .f32 0x45000000#32) := by
  rw [implOf_eq]
  refine funext fun _ => congrArg (Ideal.div · _) ?_
  rw [rowSums_at, rowSums_at, implSum_eq, EReal.coe_sub, coe_sum, coe_sum]
  refine congrArg₂ (· - ·) ?_ ?_
  · exact row0_sum (l := mem0 m c main_arg2) (S := fun a => ((colS (mem0 m c main_arg0) a : ℝ) : EReal)) (s_at m c) fun e he h' => by
      rw [ins_il]; exact padI_word _ e he h'
  · exact row1_sum (l := mem0 m c main_arg2) (r := mem0 m c main_arg3) (P := fun a b => ((colP (mem0 m c main_arg0) a b : ℝ) : EReal)) (h_at m c)
      (fun e he h' => by rw [ins_il]; exact padI_word _ e he h') (fun e he h' => by rw [ins_ir]; exact padI_word _ e he h')
      (h.cols m c).1 (h.cols m c).2.1

/-- The kernel's loss of the second list: `disSum` over the number of rows. -/
theorem dis_value (c : Dev nD) :
    disOf (scOut m c) = fun _ => Ideal.div ((disSum (mem0 m c main_arg0) (mem0 m c main_arg4) (mem0 m c main_arg5) : ℝ) : EReal) (Ideal.ofBits .f32 0x45000000#32) := by
  rw [disOf_eq]
  refine funext fun _ => congrArg (Ideal.div · _) ?_
  rw [rowSums_at, disSum_eq, coe_sum]
  exact row2_sum (l' := mem0 m c main_arg4) (r' := mem0 m c main_arg5) (P := fun a b => ((colP (mem0 m c main_arg0) a b : ℝ) : EReal)) (h_at m c)
    (fun e he h' => by rw [ins_dl]; exact padD_word _ e he h') (fun e he h' => by rw [ins_dr]; exact padD_word _ e he h')
    (h.cols m c).2.2.1 (h.cols m c).2.2.2

/-- The kernel's total: the first loss and the two lists' losses, weighted. -/
theorem total_value (c : Dev nD) :
    totalOf (meanLoss (Tc.lossArr (V₀ m) c)) (implOf (scOut m c)) (disOf (scOut m c)) = fun _ =>
      Ideal.div (lossSum (mem0 m c main_arg0) (mem0 m c main_arg1)) (Ideal.ofBits .f32 0x4A3B8000#32)
        + Ideal.ofBits .f32 0x3DCCCCCD#32 * Ideal.div ((implSum (mem0 m c main_arg0) (mem0 m c main_arg2) (mem0 m c main_arg3) : ℝ) : EReal) (Ideal.ofBits .f32 0x45000000#32)
        + Ideal.ofBits .f32 0x42C80000#32 * Ideal.div ((disSum (mem0 m c main_arg0) (mem0 m c main_arg4) (mem0 m c main_arg5) : ℝ) : EReal) (Ideal.ofBits .f32 0x45000000#32) := by
  rw [loss_value, impl_value m h, dis_value m h]
  rfl

end Cert.KernelIdeal.Sc
-- ==== Proof.Take.lean ====
/-
  Taking columns of a matrix by a list of column numbers, as the reference does it: a negative number counts from the
  end, a number out of range gives not-a-number, and otherwise the column is read. Under the precondition only the last
  happens.
-/
module

public import proofs.«01_k».proof.Proof.Spec
public import Idealize.ShloMosaic.Lib.ReduceAll
public import Idealize.ShloMosaic.Lib.StableHlo.Predicate
public import Idealize.ShloMosaic.Lib.Pipeline.Value

@[expose] public section

set_option maxRecDepth 16384

noncomputable section

namespace Cert.Proof.Take

open Idealize.ShloMosaic

/-- A gather that takes whole columns reads, in row `b` and column `i`, the operand in row `b` and the column the `i`th
    word names. -/
theorem gather_cols {α : Type} {B C n : ℕ} (d : GatherDims (⟨2, ![B, C]⟩ : Shape) (⟨2, ![n, 1]⟩ : Shape) (⟨2, ![B, n]⟩ : Shape))
    (hoff : d.offsetDims = [0]) (hcol : d.collapsedSliceDims = [1]) (hob : d.operandBatchingDims = []) (hsim : d.startIndexMap = [1])
    (hivd : d.indexVectorDim = 1) (x : (⟨2, ![B, C]⟩ : Shape).Idx → α) (I : IVec (⟨2, ![n, 1]⟩ : Shape) 32)
    (b : Fin B) (i : Fin n) (c : Fin C) (hI : (I (ix2 i 0)).toInt = c.val) :
    Host.gather d x I (ix2 b i) = x (ix2 b c) := by
  have noB (a) : a ∉ d.operandBatchingDims := by simp [hob]
  have inB (k) (hk : k ∈ d.batchDims) : k = (1 : Fin 2) := by
    have : k ∉ d.offsetDims := of_decide_eq_true (List.mem_filter.1 hk).2
    rw [hoff, List.mem_singleton] at this
    match k, this with
    | ⟨0, _⟩, h => exact absurd rfl h
    | ⟨1, _⟩, _ => rfl
  have inO (k) (hk : k ∈ d.offsetDims) : k = (0 : Fin 2) := by rwa [hoff, List.mem_singleton] at hk
  have at0 (k : Fin 2) (h : k = 0) : ((ix2 b i : (⟨2, ![B, n]⟩ : Shape).Idx) k).val = b.val := by subst h; rfl
  have at1 (k : Fin 2) (h : k = 1) : ((ix2 b i : (⟨2, ![B, n]⟩ : Shape).Idx) k).val = i.val := by subst h; rfl
  refine congrArg x (funext fun a => Fin.ext ?_)
  match a with
  | ⟨0, _⟩ =>
    have hk : (0 : Fin 2) ∈ d.sKept := (d.mem_sKept 0).2 ⟨by simp [hcol], noB 0⟩
    have hm : (0 : Fin 2) ∉ d.startIndexMap := by simp [hsim]
    show d.start (ix2 b i) I 0 + d.batchCoord (ix2 b i) 0 + d.offCoord (ix2 b i) 0 = b.val
    rw [d.batchCoord_eq_zero _ _ (noB 0)]
    unfold GatherDims.start GatherDims.offCoord
    rw [dif_neg hm, dif_pos hk]
    have := at0 _ (inO _ (List.getElem_mem (by rw [d.offset_length]; exact List.idxOf_lt_length_iff.2 hk) (n := d.sKept.idxOf 0)))
    omega
  | ⟨1, _⟩ =>
    have hk : (1 : Fin 2) ∉ d.sKept := fun h => ((d.mem_sKept 1).1 h).1 (by simp [hcol])
    have hm : (1 : Fin 2) ∈ d.startIndexMap := by simp [hsim]
    have hsl : d.sliceSizes 1 = 1 := d.slice_collapsed 1 (by simp [hcol])
    show d.start (ix2 b i) I 1 + d.batchCoord (ix2 b i) 1 + d.offCoord (ix2 b i) 1 = c.val
    rw [d.batchCoord_eq_zero _ _ (noB 1), d.offCoord_eq_zero _ _ hk]
    unfold GatherDims.start
    rw [dif_pos hm, hsl]
    have hs : d.siIdx (ix2 b i) ⟨d.startIndexMap.idxOf 1, List.idxOf_lt_length_iff.2 hm⟩ = ix2 i 0 := by
      refine funext fun a' => Fin.ext ?_
      match a' with
      | ⟨0, _⟩ =>
        unfold GatherDims.siIdx
        rw [dif_neg (by rw [hivd]; exact Nat.zero_ne_one)]
        exact at1 _ (inB _ (List.getElem_mem _))
      | ⟨1, _⟩ =>
        have := (d.siIdx (ix2 b i) ⟨d.startIndexMap.idxOf 1, List.idxOf_lt_length_iff.2 hm⟩ ⟨1, Nat.one_lt_two⟩).isLt
        exact Nat.lt_one_iff.1 this
    rw [hs, hI]
    have := c.isLt
    show min ((c.val : ℤ)).toNat (C - 1) + 0 + 0 = c.val
    omega

/-- The words of a list after the negative ones were moved up by 1500. -/
def wrap {n : ℕ} (hb : (⟨0, ![]⟩ : Shape).BroadcastsInDim (⟨1, ![n]⟩ : Shape) (![] : Fin 0 → Fin 1)) (u : IVec (⟨1, ![n]⟩ : Shape) 32) : IVec (⟨1, ![n]⟩ : Shape) 32 :=
  select (cmpi .slt u (broadcastInDim _ ![] hb (constantI (⟨0, ![]⟩ : Shape) 32 0#32))) (addi u (broadcastInDim _ ![] hb (constantI (⟨0, ![]⟩ : Shape) 32 1500#32))) u

/-- A word under 1500 is not negative, and is the number it reads as. -/
theorem small_word {v : BitVec 32} (h : v.toNat < 1500) :
    IntOp.cmpi .slt v 0#32 = 0#1 ∧ IntOp.cmpi .sge v 0#32 = 1#1 ∧ IntOp.cmpi .sle v 1499#32 = 1#1 ∧ v.toInt = (v.toNat : ℤ) := by
  have hi : v.toInt = (v.toNat : ℤ) := by rw [BitVec.toInt_eq_toNat_cond]; split <;> omega
  have h0 : (0#32).toInt = 0 := by decide
  have h1 : (1499#32).toInt = 1499 := by decide
  have hn : ¬ (v.toInt < (0#32).toInt) := by omega
  have hge : (0#32).toInt ≤ v.toInt := by omega
  have hle : v.toInt ≤ (1499#32).toInt := by omega
  refine ⟨?_, ?_, ?_, hi⟩
  · show BitVec.ofBool (decide (v.toInt < (0#32).toInt)) = 0#1
    rw [decide_eq_false hn]; rfl
  · show BitVec.ofBool (decide ((0#32).toInt ≤ v.toInt)) = 1#1
    rw [decide_eq_true hge]; rfl
  · show BitVec.ofBool (decide (v.toInt ≤ (1499#32).toInt)) = 1#1
    rw [decide_eq_true hle]; rfl

/-- A list of words under 1500 is not changed. -/
theorem wrap_eq {n : ℕ} (hb : (⟨0, ![]⟩ : Shape).BroadcastsInDim (⟨1, ![n]⟩ : Shape) (![] : Fin 0 → Fin 1)) (u : IVec (⟨1, ![n]⟩ : Shape) 32)
    (hu : ∀ i, (u i).toNat < 1500) : wrap hb u = u := by
  funext i
  show (if IntOp.cmpi .slt (u i) 0#32 = 1#1 then _ else u i) = u i
  rw [(small_word (hu i)).1]; rfl

/-- The reference's taking of columns, under the precondition: the column each word names. -/
theorem take_at {n : ℕ} (hn : n ≠ 1) (d : GatherDims (⟨2, ![2048, 1500]⟩ : Shape) (⟨2, ![n, 1]⟩ : Shape) (⟨2, ![2048, n]⟩ : Shape))
    (hoff : d.offsetDims = [0]) (hcol : d.collapsedSliceDims = [1]) (hob : d.operandBatchingDims = []) (hsim : d.startIndexMap = [1])
    (hivd : d.indexVectorDim = 1) (hb : (⟨0, ![]⟩ : Shape).BroadcastsInDim (⟨1, ![n]⟩ : Shape) (![] : Fin 0 → Fin 1))
    (hI : (⟨1, ![n]⟩ : Shape).BroadcastsInDim (⟨2, ![n, 1]⟩ : Shape) (![0] : Fin 1 → Fin 2))
    (hM : (⟨1, ![n]⟩ : Shape).BroadcastsInDim (⟨2, ![2048, n]⟩ : Shape) (![1] : Fin 1 → Fin 2))
    (h0 : (⟨0, ![]⟩ : Shape).BroadcastsInDim (⟨2, ![n, 1]⟩ : Shape) (![] : Fin 0 → Fin 2))
    (h1 : (⟨2, ![1, 1]⟩ : Shape).BroadcastsInDim (⟨2, ![n, 1]⟩ : Shape) (![0, 1] : Fin 2 → Fin 2))
    (h2 : (⟨1, ![1]⟩ : Shape).BroadcastsInDim (⟨2, ![1, 1]⟩ : Shape) (![1] : Fin 1 → Fin 2))
    (hr : (⟨2, ![n, 1]⟩ : Shape).ReducesTo [1] (⟨1, ![n]⟩ : Shape)) (hS : 0 < (⟨0, ![]⟩ : Shape).numel)
    (p : (⟨2, ![2048, 1500]⟩ : Shape).Idx → EReal) (e : (⟨2, ![2048, n]⟩ : Shape).Idx → EReal) (u : IVec (⟨1, ![n]⟩ : Shape) 32)
    (hu : ∀ i, (u i).toNat < 1500) (b : Fin 2048) (i : Fin n) :
    select (broadcastInDim (⟨2, ![2048, n]⟩ : Shape) ![1] hM (Host.reduce IntOp.andi (andi (cmpi .sge (broadcastInDim (⟨2, ![n, 1]⟩ : Shape) ![0] hI (wrap hb u))
          (broadcastInDim (⟨2, ![n, 1]⟩ : Shape) ![] h0 (constantI (⟨0, ![]⟩ : Shape) 32 0#32))) (cmpi .sle (broadcastInDim (⟨2, ![n, 1]⟩ : Shape) ![0] hI (wrap hb u))
          (broadcastInDim (⟨2, ![n, 1]⟩ : Shape) ![0, 1] h1 (broadcastInDim (⟨2, ![1, 1]⟩ : Shape) ![1] h2 (constantI (⟨1, ![1]⟩ : Shape) 32 1499#32)))))
          (constantI (⟨0, ![]⟩ : Shape) 1 1#1) hr hS))
        (Host.gather d p (broadcastInDim (⟨2, ![n, 1]⟩ : Shape) ![0] hI (wrap hb u))) e (ix2 b i) = p (ix2 b (Spec.pos u i)) := by
  rw [wrap_eq hb u hu]
  have hw (k : (⟨2, ![n, 1]⟩ : Shape).Idx) : ((broadcastInDim (⟨2, ![n, 1]⟩ : Shape) ![0] hI u) k).toNat < 1500 := hu _
  refine (if_pos ?_).trans (gather_cols d hoff hcol hob hsim hivd p _ b i (Spec.pos u i) ?_)
  · exact Host.reduce_andi_one _ _ _ _ _ rfl fun k => by
      show IntOp.andi (IntOp.cmpi .sge _ 0#32) (IntOp.cmpi .sle _ 1499#32) = 1#1
      rw [(small_word (hw k)).2.1, (small_word (hw k)).2.2.1]; rfl
  · have e : broadcastInDim (⟨2, ![n, 1]⟩ : Shape) ![0] hI u (ix2 i 0) = u (ix1 i) :=
      broadcastInDim_apply ![0] hI u (ix2 i 0) (ix1 i) fun a => by
        obtain rfl : a = 0 := Subsingleton.elim _ _
        exact (if_neg hn).symm
    rw [e, (small_word (hu _)).2.2.2]
    exact congrArg _ (Nat.mod_eq_of_lt (hu _)).symm

end Cert.Proof.Take
-- ==== Proof.RefValue.lean ====
/-
  What the reference's results are, as sums of cells and of products of probabilities.
-/
module

public import proofs.«01_k».proof.Proof.Take
public import proofs.«01_k».proof.Proof.Gen.ReferenceIdeal.Run
public import Idealize.ShloMosaic.Lib.IdealHost

@[expose] public section

set_option maxRecDepth 16384

noncomputable section

namespace Cert.ReferenceIdeal.Reads

open Cert.ReferenceIdeal Cert.ReferenceIdeal.Gen Idealize.ShloMosaic
open Cert.Proof.Spec Cert.Proof.Take

/-- The word zero reads as zero. -/
theorem ofBits_zero : Ideal.ofBits .f32 0x00000000#32 = 0 := by simp [Ideal.ofBits, Ideal.ieee]

/-- Every cell of a matrix added up, a row first. -/
theorem rows_sum {n : ℕ} (M : (⟨2, ![2048, n]⟩ : Shape).Idx → EReal) (h1 : (⟨2, ![2048, n]⟩ : Shape).ReducesTo [1] (⟨1, ![2048]⟩ : Shape))
    (h0 : (⟨1, ![2048]⟩ : Shape).ReducesTo [0] (⟨0, ![]⟩ : Shape)) (hS : 0 < (⟨0, ![]⟩ : Shape).numel) (j : (⟨0, ![]⟩ : Shape).Idx) :
    Host.reduceAdd (F := Ideal) (φ := .f32) (Host.reduceAdd (F := Ideal) (φ := .f32) M (constant (⟨0, ![]⟩ : Shape) .f32 0x00000000#32) h1 hS)
        (constant (⟨0, ![]⟩ : Shape) .f32 0x00000000#32) h0 hS j
      = ∑ b : Fin 2048, ∑ i : Fin n, M (ix2 b i) := by
  refine (Ideal.hostReduceAdd_r1_a0 h0 _ _ j).trans ?_
  show Ideal.ofBits .f32 0x00000000#32 + _ = _
  rw [ofBits_zero, zero_add]
  refine Finset.sum_congr rfl fun b _ => ?_
  refine (Ideal.hostReduceAdd_r2_a1 h1 _ _ _).trans ?_
  show Ideal.ofBits .f32 0x00000000#32 + _ = _
  rw [ofBits_zero, zero_add]
  rfl

/-- The reference's first loss: the cells added up, over their number. -/
theorem loss_eq (x t : FVec Ideal S2048x1500 .f32) :
    Host.divf (Host.reduceAdd (addf (subf (maximumf x (broadcastInDim S2048x1500 ![] bcast_S_S2048x1500 (constant S_ .f32 0x00000000#32))) (mulf x t)) (Host.log1p (Host.exp (Host.negf (Host.absf x))))) (constant S_ .f32 0x00000000#32) reducesTo_S2048x1500_S_d0_1 h_S_) (constant S_ .f32 0x4A3B8000#32)
      = fun _ => Ideal.div (lossSum x t) (Ideal.ofBits .f32 0x4A3B8000#32) := by
  funext j
  refine congrArg (Ideal.div · _) ?_
  refine (Ideal.hostReduceAdd_r2_a01 reducesTo_S2048x1500_S_d0_1 _ _ j).trans ?_
  show Ideal.ofBits .f32 0x00000000#32 + _ = _
  rw [ofBits_zero, zero_add]
  refine Finset.sum_congr rfl fun b _ => Finset.sum_congr rfl fun c _ => ?_
  show max _ (Ideal.ofBits .f32 0x00000000#32) - _ + _ = _
  rw [ofBits_zero]
  rfl

/-- The reference's probabilities. -/
def probs (x : FVec Ideal S2048x1500 .f32) : FVec Ideal S2048x1500 .f32 :=
  Host.divf (broadcastInDim S2048x1500 ![] bcast_S_S2048x1500 (constant S_ .f32 0x3F800000#32)) (addf (broadcastInDim S2048x1500 ![] bcast_S_S2048x1500 (constant S_ .f32 0x3F800000#32)) (Host.exp (Host.negf x)))

/-- A probability of the reference's is the logistic function's value. -/
theorem probs_at (x : FVec Ideal S2048x1500 .f32) (b : Fin 2048) (c : Fin 1500) : probs x (ix2 b c) = ((prob x b c : ℝ) : EReal) := by
  unfold prob
  rw [coe_sig]
  show Ideal.div (Ideal.ofBits .f32 0x3F800000#32) (Ideal.ofBits .f32 0x3F800000#32 + _) = _
  rw [Ideal.ofBits_one_f32]
  rfl

/-- The columns of a matrix the first list's words name, as the reference takes them. -/
def takeI (p : FVec Ideal S2048x1500 .f32) (u : IVec S10000 32) : FVec Ideal S2048x10000 .f32 :=
  select (broadcastInDim S2048x10000 ![1] bcast_S10000_S2048x10000_1 (Host.reduce IntOp.andi (andi (cmpi .sge (broadcastInDim S10000x1 ![0] bcast_S10000_S10000x1_0 (wrap bcast_S_S10000 u)) (broadcastInDim S10000x1 ![] bcast_S_S10000x1 (constantI S_ 32 0#32))) (cmpi .sle (broadcastInDim S10000x1 ![0] bcast_S10000_S10000x1_0 (wrap bcast_S_S10000 u)) (broadcastInDim S10000x1 ![0, 1] bcast_S1x1_S10000x1_0_1 (broadcastInDim S1x1 ![1] bcast_S1_S1x1_1 (constantI S1 32 1499#32))))) (constantI S_ 1 1#1) reducesTo_S10000x1_S10000_d1 h_S_)) (Host.gather gather_S2048x1500_S10000x1_S2048x10000_0_1_n_n_1_1_20481 p (broadcastInDim S10000x1 ![0] bcast_S10000_S10000x1_0 (wrap bcast_S_S10000 u))) (broadcastInDim S2048x10000 ![] bcast_S_S2048x10000 (constant S_ .f32 0x7FC00000#32))

/-- It reads, in row `b`, the column the list's `i`th word names. -/
theorem takeI_at (p : FVec Ideal S2048x1500 .f32) (u : IVec S10000 32) (hu : ∀ i, (u i).toNat < 1500) (b : Fin 2048) (i : Fin 10000) :
    takeI p u (ix2 b i) = p (ix2 b (pos u i)) :=
  take_at (by decide) gather_S2048x1500_S10000x1_S2048x10000_0_1_n_n_1_1_20481 rfl rfl rfl rfl rfl bcast_S_S10000 _ _ _ _ _ _ _ p _ u hu b i

/-- The columns of a matrix the second list's words name, as the reference takes them. -/
def takeD (p : FVec Ideal S2048x1500 .f32) (u : IVec S4000 32) : FVec Ideal S2048x4000 .f32 :=
  select (broadcastInDim S2048x4000 ![1] bcast_S4000_S2048x4000_1 (Host.reduce IntOp.andi (andi (cmpi .sge (broadcastInDim S4000x1 ![0] bcast_S4000_S4000x1_0 (wrap bcast_S_S4000 u)) (broadcastInDim S4000x1 ![] bcast_S_S4000x1 (constantI S_ 32 0#32))) (cmpi .sle (broadcastInDim S4000x1 ![0] bcast_S4000_S4000x1_0 (wrap bcast_S_S4000 u)) (broadcastInDim S4000x1 ![0, 1] bcast_S1x1_S4000x1_0_1 (broadcastInDim S1x1 ![1] bcast_S1_S1x1_1 (constantI S1 32 1499#32))))) (constantI S_ 1 1#1) reducesTo_S4000x1_S4000_d1 h_S_)) (Host.gather gather_S2048x1500_S4000x1_S2048x4000_0_1_n_n_1_1_20481 p (broadcastInDim S4000x1 ![0] bcast_S4000_S4000x1_0 (wrap bcast_S_S4000 u))) (broadcastInDim S2048x4000 ![] bcast_S_S2048x4000 (constant S_ .f32 0x7FC00000#32))

/-- It reads, in row `b`, the column the list's `i`th word names. -/
theorem takeD_at (p : FVec Ideal S2048x1500 .f32) (u : IVec S4000 32) (hu : ∀ i, (u i).toNat < 1500) (b : Fin 2048) (i : Fin 4000) :
    takeD p u (ix2 b i) = p (ix2 b (pos u i)) :=
  take_at (by decide) gather_S2048x1500_S4000x1_S2048x4000_0_1_n_n_1_1_20481 rfl rfl rfl rfl rfl bcast_S_S4000 _ _ _ _ _ _ _ p _ u hu b i

/-- The reference's loss of the first list. -/
def implT (x : FVec Ideal S2048x1500 .f32) (l r : IVec S10000 32) : FVec Ideal S_ .f32 :=
  Host.divf (Host.reduceAdd (Host.reduceAdd (mulf (takeI (probs x) l) (subf (broadcastInDim S2048x10000 ![] bcast_S_S2048x10000 (constant S_ .f32 0x3F800000#32)) (takeI (probs x) r))) (constant S_ .f32 0x00000000#32) reducesTo_S2048x10000_S2048_d1 h_S_) (constant S_ .f32 0x00000000#32) reducesTo_S2048_S_d0 h_S_) (constant S_ .f32 0x45000000#32)

/-- It is `implSum` over the number of rows. -/
theorem implT_eq (x : FVec Ideal S2048x1500 .f32) (l r : IVec S10000 32) (hl : ∀ i, (l i).toNat < 1500) (hr : ∀ i, (r i).toNat < 1500) :
    implT x l r = fun _ => Ideal.div ((implSum x l r : ℝ) : EReal) (Ideal.ofBits .f32 0x45000000#32) := by
  funext j
  refine congrArg (Ideal.div · _) ((rows_sum _ _ _ _ j).trans ?_)
  unfold implSum
  rw [coe_sum]
  refine Finset.sum_congr rfl fun b _ => ?_
  rw [coe_sum]
  refine Finset.sum_congr rfl fun i _ => ?_
  show takeI (probs x) l (ix2 b i) * (Ideal.ofBits .f32 0x3F800000#32 - takeI (probs x) r (ix2 b i)) = _
  rw [takeI_at _ l hl, takeI_at _ r hr, probs_at, probs_at, Ideal.ofBits_one_f32, EReal.coe_mul, EReal.coe_sub, EReal.coe_one]

/-- The reference's loss of the second list. -/
def disT (x : FVec Ideal S2048x1500 .f32) (l r : IVec S4000 32) : FVec Ideal S_ .f32 :=
  Host.divf (Host.reduceAdd (Host.reduceAdd (mulf (takeD (probs x) l) (subf (broadcastInDim S2048x4000 ![] bcast_S_S2048x4000 (constant S_ .f32 0x3F800000#32)) (subf (broadcastInDim S2048x4000 ![] bcast_S_S2048x4000 (constant S_ .f32 0x3F800000#32)) (takeD (probs x) r)))) (constant S_ .f32 0x00000000#32) reducesTo_S2048x4000_S2048_d1 h_S_) (constant S_ .f32 0x00000000#32) reducesTo_S2048_S_d0 h_S_) (constant S_ .f32 0x45000000#32)

/-- It is `disSum` over the number of rows: one less one less a probability is the probability. -/
theorem disT_eq (x : FVec Ideal S2048x1500 .f32) (l r : IVec S4000 32) (hl : ∀ i, (l i).toNat < 1500) (hr : ∀ i, (r i).toNat < 1500) :
    disT x l r = fun _ => Ideal.div ((disSum x l r : ℝ) : EReal) (Ideal.ofBits .f32 0x45000000#32) := by
  funext j
  refine congrArg (Ideal.div · _) ((rows_sum _ _ _ _ j).trans ?_)
  unfold disSum
  rw [coe_sum]
  refine Finset.sum_congr rfl fun b _ => ?_
  rw [coe_sum]
  refine Finset.sum_congr rfl fun i _ => ?_
  show takeD (probs x) l (ix2 b i) * (Ideal.ofBits .f32 0x3F800000#32 - (Ideal.ofBits .f32 0x3F800000#32 - takeD (probs x) r (ix2 b i))) = _
  rw [takeD_at _ l hl, takeD_at _ r hr, probs_at, probs_at, Ideal.ofBits_one_f32, ← EReal.coe_one, ← EReal.coe_sub, ← EReal.coe_sub, ← EReal.coe_mul,
    sub_sub_cancel]

/-- The reference's total of its three losses. -/
def totalT (x t : FVec Ideal S2048x1500 .f32) (l r : IVec S10000 32) (l' r' : IVec S4000 32) : FVec Ideal S_ .f32 := fun _ =>
  Ideal.div (lossSum x t) (Ideal.ofBits .f32 0x4A3B8000#32)
    + Ideal.ofBits .f32 0x3DCCCCCD#32 * Ideal.div ((implSum x l r : ℝ) : EReal) (Ideal.ofBits .f32 0x45000000#32)
    + Ideal.ofBits .f32 0x42C80000#32 * Ideal.div ((disSum x l' r' : ℝ) : EReal) (Ideal.ofBits .f32 0x45000000#32)

open Idealize.ShloMosaic.TcCoe Idealize.SL.Sem Idealize.ShloMosaic.StableHlo

/-- The reference's composed total is that. -/
theorem total_eq (m : (ℓ : Loc nD τ sig) → Buf (Elt Ideal) ℓ) (c : Dev nD)
    (h2 : ∀ i, (m ((c.tc : Thread nD τ).loc main_arg2) i).toNat < 1500) (h3 : ∀ i, (m ((c.tc : Thread nD τ).loc main_arg3) i).toNat < 1500)
    (h4 : ∀ i, (m ((c.tc : Thread nD τ).loc main_arg4) i).toNat < 1500) (h5 : ∀ i, (m ((c.tc : Thread nD τ).loc main_arg5) i).toNat < 1500) :
    Value.res_main_v38 m c = totalT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v38
  refine (congrArg₂ addf (congrArg₂ addf (loss_eq _ _) (congrArg (mulf _) (implT_eq _ _ _ h2 h3))) (congrArg (mulf _) (disT_eq _ _ _ h4 h5))).trans ?_
  rfl

/-- What the reference leaves on every device, when the lists' words are column numbers. -/
theorem run_values (m : (ℓ : Loc nD τ sig) → Buf (Elt Ideal) ℓ) (ρ : Dev nD → PrngReg)
    (h2 : ∀ c : Dev nD, ∀ i, (m ((c.tc : Thread nD τ).loc main_arg2) i).toNat < 1500) (h3 : ∀ c : Dev nD, ∀ i, (m ((c.tc : Thread nD τ).loc main_arg3) i).toNat < 1500)
    (h4 : ∀ c : Dev nD, ∀ i, (m ((c.tc : Thread nD τ).loc main_arg4) i).toNat < 1500) (h5 : ∀ c : Dev nD, ∀ i, (m ((c.tc : Thread nD τ).loc main_arg5) i).toNat < 1500) :
    θ_run defs (onTc (τ := τ) (main (F := Ideal))) ⟨m, fun _ => 0, ρ⟩ fun r => ∀ c : Dev nD,
      r.2.mem ((c.tc : Thread nD τ).loc main_v38) = totalT (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v10) = (fun _ => Ideal.div (lossSum (m ((c.tc : Thread nD τ).loc main_arg0)) (m ((c.tc : Thread nD τ).loc main_arg1))) (Ideal.ofBits .f32 0x4A3B8000#32))
      ∧ r.2.mem ((c.tc : Thread nD τ).loc main_v24) = (fun _ => Ideal.div ((implSum (m ((c.tc : Thread nD τ).loc main_arg0)) (m ((c.tc : Thread nD τ).loc main_arg2)) (m ((c.tc : Thread nD τ).loc main_arg3)) : ℝ) : EReal) (Ideal.ofBits .f32 0x45000000#32))
      ∧ r.2.mem ((c.tc : Thread nD τ).loc main_v36) = (fun _ => Ideal.div ((disSum (m ((c.tc : Thread nD τ).loc main_arg0)) (m ((c.tc : Thread nD τ).loc main_arg4)) (m ((c.tc : Thread nD τ).loc main_arg5)) : ℝ) : EReal) (Ideal.ofBits .f32 0x45000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (total_eq m c (h2 c) (h3 c) (h4 c) (h5 c)), (h c).2.1.trans (loss_eq _ _),
    (h c).2.2.1.trans (implT_eq _ _ _ (h2 c) (h3 c)), (h c).2.2.2.1.trans (disT_eq _ _ _ (h4 c) (h5 c)), (h c).2.2.2.2⟩) (Value.run m ρ)

end Cert.ReferenceIdeal.Reads
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run

public import proofs.«01_k».proof.Proof.Gen.Pre_in_range
public import proofs.«01_k».proof.Proof.Frame
public import proofs.«01_k».proof.Proof.Value
public import proofs.«01_k».proof.Proof.RefValue
public import proofs.«01_k».proof.Proof.Bits.Frame
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_in_range.Facts := Cert.Pre_in_range.Gen.facts

/-- The kernel runs, leaves its arguments as they were and every semaphore at zero. -/
theorem kernel_frame : Cert.quiescent_Kernel := fun m g h => Cert.Kernel.Sc.run_frame m g h

/-- So does the idealized kernel. -/
theorem kernel_ideal_frame : Cert.quiescent_KernelIdeal := fun m g h => Cert.KernelIdeal.Sc.run_frame m g h

/-- The reference, which uses no semaphore, runs and leaves its arguments as they were. -/
theorem reference_frame : Cert.quiescent_ReferenceIdeal := fun m g _ =>
  (θ_run Cert.ReferenceIdeal.defs _ _).mono
    (fun r h => ⟨fun c => (h c).2.2.2.2, sem_eq_zero_of_no_sems (by decide) r.2⟩) (Cert.ReferenceIdeal.Value.run m g)

/-- The same under the precondition. -/
theorem reference_frame_in_range : Cert.quiescent_ReferenceIdeal_pre_in_range := fun m g _ =>
  (θ_run Cert.ReferenceIdeal.defs _ _).mono
    (fun r h => ⟨fun c => (h c).2.2.2.2, sem_eq_zero_of_no_sems (by decide) r.2⟩) (Cert.ReferenceIdeal.Value.run m g)

open Cert.KernelIdeal in
/-- From equal arguments, the lists naming columns, the idealized kernel and the reference leave equal results. -/
theorem algebraic : Cert.algebraic_KernelIdeal_ReferenceIdeal := fun m g m' g' h e => by
  refine ⟨fun c => Sc.totalOf (Sc.meanLoss (Tc.lossArr (Sc.V₀ m) c)) (Sc.implOf (Sc.scOut m c)) (Sc.disOf (Sc.scOut m c)),
    fun c => Sc.meanLoss (Tc.lossArr (Sc.V₀ m) c), fun c => Sc.implOf (Sc.scOut m c), fun c => Sc.disOf (Sc.scOut m c),
    (θ_run Cert.KernelIdeal.defs _ _).mono (fun r hr => hr.1) (Sc.run_values m g h),
    (θ_run Cert.ReferenceIdeal.defs _ _).mono (fun r hr c => ?_) (Cert.ReferenceIdeal.Reads.run_values m' g' ?_ ?_ ?_ ?_)⟩
  · have k := hr c
    obtain ⟨e0, e1, e2, e3, e4, e5⟩ := e c
    refine ⟨k.1.trans (Eq.trans ?_ (Sc.total_value m h c).symm), k.2.1.trans (Eq.trans ?_ (Sc.loss_value m c).symm),
      k.2.2.1.trans (Eq.trans ?_ (Sc.impl_value m h c).symm), k.2.2.2.1.trans (Eq.trans ?_ (Sc.dis_value m h c).symm), k.2.2.2.2⟩
    · rw [e0, e1, e2, e3, e4, e5]; rfl
    · rw [e0, e1]; rfl
    · rw [e0, e2, e3]; rfl
    · rw [e0, e4, e5]; rfl
  · exact fun c => by rw [(e c).2.2.1]; exact (Sc.Good.cols m h c).1
  · exact fun c => by rw [(e c).2.2.2.1]; exact (Sc.Good.cols m h c).2.1
  · exact fun c => by rw [(e c).2.2.2.2.1]; exact (Sc.Good.cols m h c).2.2.1
  · exact fun c => by rw [(e c).2.2.2.2.2]; exact (Sc.Good.cols m h c).2.2.2

/-- The certificate: everything it claims. -/
theorem claim : Cert.Claim :=
  ⟨Cert.Kernel.Gen.facts, Cert.KernelIdeal.Gen.facts, Cert.ReferenceIdeal.Gen.facts, Cert.Pre_in_range.Gen.facts,
    kernel_frame, kernel_ideal_frame, reference_frame, reference_frame_in_range, trivial, algebraic⟩

end Cert.Proof

end
